-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scale_finite [hPre_scale_finite : Cert.Pre_scale_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scale_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scale_finite [hPre_scale_finite : Cert.Pre_scale_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scale_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scale_finite [hKernelIdeal : Cert.KernelIdeal.Facts] [hPre_scale_finite : Cert.Pre_scale_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scale_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scale_finite [hReferenceIdeal : Cert.ReferenceIdeal.Facts] [hPre_scale_finite : Cert.Pre_scale_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scale_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_scale_finite [hKernelIdeal : Cert.KernelIdeal.Facts] [hReferenceIdeal : Cert.ReferenceIdeal.Facts] [hPre_scale_finite : Cert.Pre_scale_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scale_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_scale_finite : Cert.Pre_scale_finite.Facts),
    quiescent_Kernel (hKernel := hKernel)
    ∧ quiescent_KernelIdeal (hKernelIdeal := hKernelIdeal)
    ∧ quiescent_KernelIdeal_pre_scale_finite (hKernelIdeal := hKernelIdeal) (hPre_scale_finite := hPre_scale_finite)
    ∧ quiescent_ReferenceIdeal (hReferenceIdeal := hReferenceIdeal)
    ∧ quiescent_ReferenceIdeal_pre_scale_finite (hReferenceIdeal := hReferenceIdeal) (hPre_scale_finite := hPre_scale_finite)
    ∧ preserves_Kernel_KernelIdeal
    ∧ algebraic_KernelIdeal_ReferenceIdeal_pre_scale_finite (hKernelIdeal := hKernelIdeal) (hReferenceIdeal := hReferenceIdeal) (hPre_scale_finite := hPre_scale_finite)
-- ==== Pre_scale_finite.lean ====
abbrev S4x1x512x512 : Shape := ⟨4, ![4, 1, 512, 512]⟩
abbrev S4 : Shape := ⟨1, ![4]⟩
abbrev S4x2 : Shape := ⟨2, ![4, 2]⟩
abbrev S_ : Shape := ⟨0, ![]⟩

class Facts : Prop where
  bcast_S_S4 : S_.BroadcastsInDim S4 (![] : Fin 0 → Fin S4.rank)

variable [Facts]

def fn {F : FTy → Type} [FloatOps F] (main_arg0 : FVec F S4x1x512x512 .f32) (main_arg1 : FVec F S4 .f32) (main_arg2 : FVec F S4x2 .f32) : IVec S4 1 :=
  let main_v0 : FVec F S4 .f32 := Host.absf main_arg1
  let main_cst : FVec F S_ .f32 := constant S_ .f32 0x7F800000#32
  let main_v1 : FVec F S4 .f32 := broadcastInDim S4 ![] bcast_S_S4 main_cst
  let main_v2 : IVec S4 1 := cmpf .olt main_v0 main_v1
  main_v2
-- ==== Kernel.lean ====
abbrev S4x1x512x512 : Shape := ⟨4, ![4, 1, 512, 512]⟩
abbrev S4 : Shape := ⟨1, ![4]⟩
abbrev S4x2 : Shape := ⟨2, ![4, 2]⟩
abbrev S8 : Shape := ⟨1, ![8]⟩
abbrev S4x2x512x512 : Shape := ⟨4, ![4, 2, 512, 512]⟩
abbrev S4x512x512 : Shape := ⟨3, ![4, 512, 512]⟩
abbrev S512x512 : Shape := ⟨2, ![512, 512]⟩
abbrev S1 : Shape := ⟨1, ![1]⟩
abbrev S_ : Shape := ⟨0, ![]⟩
abbrev S1x256x512 : Shape := ⟨3, ![1, 256, 512]⟩
abbrev S256x512 : Shape := ⟨2, ![256, 512]⟩
abbrev S1x1x256x512 : Shape := ⟨4, ![1, 1, 256, 512]⟩
abbrev S1x512x512 : Shape := ⟨3, ![1, 512, 512]⟩
abbrev S1x1x512x512 : Shape := ⟨4, ![1, 1, 512, 512]⟩
abbrev S511x512 : Shape := ⟨2, ![511, 512]⟩
abbrev S1x512 : Shape := ⟨2, ![1, 512]⟩
abbrev S510x512 : Shape := ⟨2, ![510, 512]⟩
abbrev S512x1 : Shape := ⟨2, ![512, 1]⟩
abbrev S512x511 : Shape := ⟨2, ![512, 511]⟩
abbrev S512x510 : Shape := ⟨2, ![512, 510]⟩
abbrev S1x2x512x512 : Shape := ⟨4, ![1, 2, 512, 512]⟩
abbrev S2x512x512 : Shape := ⟨3, ![2, 512, 512]⟩
abbrev S254x512 : Shape := ⟨2, ![254, 512]⟩
abbrev S256x1 : Shape := ⟨2, ![256, 1]⟩
abbrev S256x511 : Shape := ⟨2, ![256, 511]⟩
abbrev S256x510 : Shape := ⟨2, ![256, 510]⟩
abbrev S255x512 : Shape := ⟨2, ![255, 512]⟩

abbrev nBuf : Space → Nat
  | .hbm => 11
  | .vmem => 3
  | .smem => 2
  | _ => 0

abbrev bufTy : (tb : Table) → Fin (tcTables nBuf tb) → BufTy
  | .hbm, ⟨0, _⟩ => ⟨S4x1x512x512, .f32⟩
  | .hbm, ⟨1, _⟩ => ⟨S4, .f32⟩
  | .hbm, ⟨2, _⟩ => ⟨S4x2, .f32⟩
  | .hbm, ⟨3, _⟩ => ⟨S8, .f32⟩
  | .hbm, ⟨4, _⟩ => ⟨S4x2x512x512, .f32⟩
  | .hbm, ⟨5, _⟩ => ⟨S4x512x512, .i8⟩
  | .hbm, ⟨6, _⟩ => ⟨S4x512x512, .i8⟩
  | .hbm, ⟨7, _⟩ => ⟨S_, .i8⟩
  | .hbm, ⟨8, _⟩ => ⟨S4x512x512, .i8⟩
  | .hbm, ⟨9, _⟩ => ⟨S4x512x512, .i1⟩
  | .hbm, ⟨10, _⟩ => ⟨S4x512x512, .i1⟩
  | .local _ .vmem, ⟨0, _⟩ => ⟨S4x512x512, .f32⟩
  | .local _ .vmem, ⟨1, _⟩ => ⟨S4x2x512x512, .f32⟩
  | .local _ .vmem, ⟨2, _⟩ => ⟨S4x512x512, .i8⟩
  | .local _ .smem, ⟨0, _⟩ => ⟨S4, .f32⟩
  | .local _ .smem, ⟨1, _⟩ => ⟨S8, .f32⟩
  | _, _ => ⟨S4x1x512x512, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x1x512x512 : Shape := ⟨4, ![4, 1, 512, 512]⟩
abbrev S4 : Shape := ⟨1, ![4]⟩
abbrev S4x2 : Shape := ⟨2, ![4, 2]⟩
abbrev S4x512x512 : Shape := ⟨3, ![4, 512, 512]⟩
abbrev S_ : Shape := ⟨0, ![]⟩
abbrev S512 : Shape := ⟨1, ![512]⟩
abbrev S512x512 : Shape := ⟨2, ![512, 512]⟩
abbrev S1x512x512 : Shape := ⟨3, ![1, 512, 512]⟩
abbrev S4x1x1 : Shape := ⟨3, ![4, 1, 1]⟩
abbrev S4x1 : Shape := ⟨2, ![4, 1]⟩
abbrev S4x2x512x512 : Shape := ⟨4, ![4, 2, 512, 512]⟩

abbrev nBuf : Space → Nat
  | .hbm => 53
  | .vmem => 0
  | .smem => 0
  | _ => 0

abbrev bufTy : (tb : Table) → Fin (tcTables nBuf tb) → BufTy
  | .hbm, ⟨0, _⟩ => ⟨S4x1x512x512, .f32⟩
  | .hbm, ⟨1, _⟩ => ⟨S4, .f32⟩
  | .hbm, ⟨2, _⟩ => ⟨S4x2, .f32⟩
  | .hbm, ⟨3, _⟩ => ⟨S4x512x512, .f32⟩
  | .hbm, ⟨4, _⟩ => ⟨S_, .f32⟩
  | .hbm, ⟨5, _⟩ => ⟨S_, .f32⟩
  | .hbm, ⟨6, _⟩ => ⟨S4x512x512, .f32⟩
  | .hbm, ⟨7, _⟩ => ⟨S_, .f32⟩
  | .hbm, ⟨8, _⟩ => ⟨S4x512x512, .f32⟩
  | .hbm, ⟨9, _⟩ => ⟨S4x512x512, .f32⟩
  | .hbm, ⟨10, _⟩ => ⟨S_, .f32⟩
  | .hbm, ⟨11, _⟩ => ⟨S4x512x512, .f32⟩
  | .hbm, ⟨12, _⟩ => ⟨S4x512x512, .i1⟩
  | .hbm, ⟨13, _⟩ => ⟨S4x512x512, .i1⟩
  | .hbm, ⟨14, _⟩ => ⟨S4x512x512, .i1⟩
  | .hbm, ⟨15, _⟩ => ⟨S512, .i32⟩
  | .hbm, ⟨16, _⟩ => ⟨S512, .i32⟩
  | .hbm, ⟨17, _⟩ => ⟨S512x512, .i32⟩
  | .hbm, ⟨18, _⟩ => ⟨S512x512, .i32⟩
  | .hbm, ⟨19, _⟩ => ⟨S512x512, .f32⟩
  | .hbm, ⟨20, _⟩ => ⟨S1x512x512, .f32⟩
  | .hbm, ⟨21, _⟩ => ⟨S512x512, .f32⟩
  | .hbm, ⟨22, _⟩ => ⟨S1x512x512, .f32⟩
  | .hbm, ⟨23, _⟩ => ⟨S4x1x1, .f32⟩
  | .hbm, ⟨24, _⟩ => ⟨S4x1, .f32⟩
  | .hbm, ⟨25, _⟩ => ⟨S4, .f32⟩
  | .hbm, ⟨26, _⟩ => ⟨S4x1x1, .f32⟩
  | .hbm, ⟨27, _⟩ => ⟨S4x1, .f32⟩
  | .hbm, ⟨28, _⟩ => ⟨S4, .f32⟩
  | .hbm, ⟨29, _⟩ => ⟨S4x1x1, .f32⟩
  | .hbm, ⟨30, _⟩ => ⟨S_, .f32⟩
  | .hbm, ⟨31, _⟩ => ⟨S1x512x512, .f32⟩
  | .hbm, ⟨32, _⟩ => ⟨S1x512x512, .f32⟩
  | .hbm, ⟨33, _⟩ => ⟨S4x512x512, .f32⟩
  | .hbm, ⟨34, _⟩ => ⟨S4x512x512, .f32⟩
  | .hbm, ⟨35, _⟩ => ⟨S4x512x512, .f32⟩
  | .hbm, ⟨36, _⟩ => ⟨S4x512x512, .f32⟩
  | .hbm, ⟨37, _⟩ => ⟨S4x512x512, .f32⟩
  | .hbm, ⟨38, _⟩ => ⟨S_, .f32⟩
  | .hbm, ⟨39, _⟩ => ⟨S1x512x512, .f32⟩
  | .hbm, ⟨40, _⟩ => ⟨S1x512x512, .f32⟩
  | .hbm, ⟨41, _⟩ => ⟨S4x512x512, .f32⟩
  | .hbm, ⟨42, _⟩ => ⟨S4x512x512, .f32⟩
  | .hbm, ⟨43, _⟩ => ⟨S4x512x512, .f32⟩
  | .hbm, ⟨44, _⟩ => ⟨S4x512x512, .f32⟩
  | .hbm, ⟨45, _⟩ => ⟨S4x512x512, .f32⟩
  | .hbm, ⟨46, _⟩ => ⟨S4x1x512x512, .f32⟩
  | .hbm, ⟨47, _⟩ => ⟨S4x1x512x512, .f32⟩
  | .hbm, ⟨48, _⟩ => ⟨S4x2x512x512, .f32⟩
  | .hbm, ⟨49, _⟩ => ⟨S4x1x512x512, .i1⟩
  | .hbm, ⟨50, _⟩ => ⟨S4x1x512x512, .f32⟩
  | .hbm, ⟨51, _⟩ => ⟨S4x2x512x512, .f32⟩
  | .hbm, ⟨52, _⟩ => ⟨S4x2x512x512, .f32⟩
  | _, _ => ⟨S4x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩

abbrev nD : Nat := 1
abbrev τ : Topo := Topo.v7x

variable {F : FTy → Type} [FloatOps F]
-- ==== Proof.Body.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The kernel's buffers: input, the two results, the three scratch buffers, and the staged scale and center. -/
abbrev xH : Memref sig .tc .hbm S4x1x512x512 .f32 := Memref.whole main_arg0
abbrev wcH : Memref sig .tc .hbm S4x2x512x512 .f32 := Memref.whole main_v1_0
abbrev mH : Memref sig .tc .hbm S4x512x512 .i8 := Memref.whole main_v1_1
abbrev xB : Memref sig .tc .vmem S4x512x512 .f32 := Memref.whole cc0_scratch0
abbrev wcB : Memref sig .tc .vmem S4x2x512x512 .f32 := Memref.whole cc0_scratch1
abbrev mB : Memref sig .tc .vmem S4x512x512 .i8 := Memref.whole cc0_scratch2
abbrev sc : Memref sig .tc .smem S4 .f32 := Memref.whole cc0_stg0_0
abbrev ce : Memref sig .tc .smem S8 .f32 := Memref.whole cc0_stg1_0

/-- Contents of a buffer on device `c`. -/
abbrev BufAt (c : Dev nD) {sp : Space} {S : Shape} {e : EltTy} (M : Memref sig .tc sp S e) : Type := Buf (Elt F) (M.view.loc (c : Thread nD τ))
/-- The whole buffer of a memref, held with its contents. -/
abbrev pt (c : Dev nD) {sp : Space} {S : Shape} {e : EltTy} (M : Memref sig .tc sp S e) (f : BufAt (F := F) c M) : sProp 𝕄 :=
  M.view.loc (c : Thread nD τ) ↦{fullShare} f

/-- Two squeezed slices at separated literal rectangles lie in disjoint elements. -/
theorem disjoint_squeezed {sp : Space} {S S1 S2 : Shape} {e : EltTy} (M : Memref sig .tc sp S e) (r₁ r₂ : Rect S)
    (h₁ h₂) (k₁ : r₁.shape.Squeezes S1) (k₂ : r₂.shape.Squeezes S2) (h : LoadRect.disj r₁ r₂.toLoadRect = true) :
    Disjoint ((M.slice r₁ h₁).squeeze S1 k₁).view.set ((M.slice r₂ h₂).squeeze S2 k₂).view.set := by
  have e₁ : ((M.slice r₁ h₁).squeeze S1 k₁).view.set = (M.view.slice r₁).set := View.set_reshape _ _
  have e₂ : ((M.slice r₂ h₂).squeeze S2 k₂).view.set = (M.view.slice r₂).set := View.set_reshape _ _
  rw [e₁, e₂]; exact View.disjoint_slice_of_disj M.view r₁ r₂ h

/-- A part taken out of what is held of a buffer. -/
theorem carve {c : Dev nD} {sp : Space} {s : Shape} {e : EltTy} (M : Memref sig .tc sp s e)
    {S : Finset (Idx (M.view.loc (c : Thread nD τ)))} (h : M.view.set ⊆ S) (f : BufAt (F := F) c M) :
    (M.view.loc (c : Thread nD τ) ↦[S]{fullShare} f : sProp 𝕄)
      ⊢ iprop((M.view.loc (c : Thread nD τ) ↦[S \ M.view.set]{fullShare} f) ∗ (M.view.loc (c : Thread nD τ) ↦[M.view.set]{fullShare} f)) :=
  (pointsTo_split_subset h).1.trans (by iintro ⟨A, B⟩; isplitl [B] <;> iassumption)

/-- Both planes of one slot of the world result. -/
abbrev wS (o : Fin 4 → ℕ) (h : ∀ a, o a + S1x2x512x512.size a ≤ S4x2x512x512.size a) : Memref sig .tc .hbm S2x512x512 .f32 :=
  (wcH.slice (Rect.unit (s := S4x2x512x512) o S1x2x512x512.size h) (fun _ => rfl)).squeeze S2x512x512 squeezes_S1x2x512x512_S2x512x512
/-- Half of one plane of one slot of the world result. -/
abbrev wQ (o : Fin 4 → ℕ) (h : ∀ a, o a + S1x1x256x512.size a ≤ S4x2x512x512.size a) : Memref sig .tc .hbm S256x512 .f32 :=
  (wcH.slice (Rect.unit (s := S4x2x512x512) o S1x1x256x512.size h) (fun _ => rfl)).squeeze S256x512 squeezes_S1x1x256x512_S256x512
abbrev w0 := wS ![0, 0, 0, 0] inb_S4x2x512x512_S1x2x512x512_0_0_0_0
abbrev w1 := wS ![1, 0, 0, 0] inb_S4x2x512x512_S1x2x512x512_1_0_0_0
abbrev w2 := wS ![2, 0, 0, 0] inb_S4x2x512x512_S1x2x512x512_2_0_0_0
abbrev w3 := wQ ![3, 0, 0, 0] inb_S4x2x512x512_S1x1x256x512_3_0_0_0
abbrev w4 := wQ ![3, 1, 0, 0] inb_S4x2x512x512_S1x1x256x512_3_1_0_0
abbrev w5 := wQ ![3, 0, 256, 0] inb_S4x2x512x512_S1x1x256x512_3_0_256_0
abbrev w6 := wQ ![3, 1, 256, 0] inb_S4x2x512x512_S1x1x256x512_3_1_256_0
/-- One slot of the mask result. -/
abbrev mS (o : Fin 3 → ℕ) (h : ∀ a, o a + S1x512x512.size a ≤ S4x512x512.size a) : Memref sig .tc .hbm S512x512 .i8 :=
  (mH.slice (Rect.unit (s := S4x512x512) o S1x512x512.size h) (fun _ => rfl)).squeeze S512x512 squeezes_S1x512x512_S512x512
/-- Half of one slot of the mask result. -/
abbrev mQ (o : Fin 3 → ℕ) (h : ∀ a, o a + S1x256x512.size a ≤ S4x512x512.size a) : Memref sig .tc .hbm S256x512 .i8 :=
  (mH.slice (Rect.unit (s := S4x512x512) o S1x256x512.size h) (fun _ => rfl)).squeeze S256x512 squeezes_S1x256x512_S256x512
abbrev m0 := mS ![0, 0, 0] inb_S4x512x512_S1x512x512_0_0_0
abbrev m1 := mS ![1, 0, 0] inb_S4x512x512_S1x512x512_1_0_0
abbrev m2 := mS ![2, 0, 0] inb_S4x512x512_S1x512x512_2_0_0
abbrev m3 := mQ ![3, 0, 0] inb_S4x512x512_S1x256x512_3_0_0
abbrev m4 := mQ ![3, 256, 0] inb_S4x512x512_S1x256x512_3_256_0

/-- A set inside another and off a third is inside their difference. -/
theorem sub_sdiff {α : Type} [DecidableEq α] {A B C : Finset α} (h : A ⊆ B) (d : Disjoint A C) : A ⊆ B \ C :=
  Finset.subset_sdiff.mpr ⟨h, d⟩

theorem in_w0 : w0.view.set ⊆ Finset.univ :=
  Finset.subset_univ _
theorem in_w1 : w1.view.set ⊆ (Finset.univ \ w0.view.set) :=
  sub_sdiff (Finset.subset_univ _) (disjoint_squeezed wcH _ _ _ _ (by decide) (by decide) (by decide))
theorem in_w2 : w2.view.set ⊆ ((Finset.univ \ w0.view.set) \ w1.view.set) :=
  sub_sdiff (sub_sdiff (Finset.subset_univ _) (disjoint_squeezed wcH _ _ _ _ (by decide) (by decide) (by decide))) (disjoint_squeezed wcH _ _ _ _ (by decide) (by decide) (by decide))
theorem in_w3 : w3.view.set ⊆ (((Finset.univ \ w0.view.set) \ w1.view.set) \ w2.view.set) :=
  sub_sdiff (sub_sdiff (sub_sdiff (Finset.subset_univ _) (disjoint_squeezed wcH _ _ _ _ (by decide) (by decide) (by decide))) (disjoint_squeezed wcH _ _ _ _ (by decide) (by decide) (by decide))) (disjoint_squeezed wcH _ _ _ _ (by decide) (by decide) (by decide))
theorem in_w4 : w4.view.set ⊆ ((((Finset.univ \ w0.view.set) \ w1.view.set) \ w2.view.set) \ w3.view.set) :=
  sub_sdiff (sub_sdiff (sub_sdiff (sub_sdiff (Finset.subset_univ _) (disjoint_squeezed wcH _ _ _ _ (by decide) (by decide) (by decide))) (disjoint_squeezed wcH _ _ _ _ (by decide) (by decide) (by decide))) (disjoint_squeezed wcH _ _ _ _ (by decide) (by decide) (by decide))) (disjoint_squeezed wcH _ _ _ _ (by decide) (by decide) (by decide))
theorem in_w5 : w5.view.set ⊆ (((((Finset.univ \ w0.view.set) \ w1.view.set) \ w2.view.set) \ w3.view.set) \ w4.view.set) :=
  sub_sdiff (sub_sdiff (sub_sdiff (sub_sdiff (sub_sdiff (Finset.subset_univ _) (disjoint_squeezed wcH _ _ _ _ (by decide) (by decide) (by decide))) (disjoint_squeezed wcH _ _ _ _ (by decide) (by decide) (by decide))) (disjoint_squeezed wcH _ _ _ _ (by decide) (by decide) (by decide))) (disjoint_squeezed wcH _ _ _ _ (by decide) (by decide) (by decide))) (disjoint_squeezed wcH _ _ _ _ (by decide) (by decide) (by decide))
theorem in_w6 : w6.view.set ⊆ ((((((Finset.univ \ w0.view.set) \ w1.view.set) \ w2.view.set) \ w3.view.set) \ w4.view.set) \ w5.view.set) :=
  sub_sdiff (sub_sdiff (sub_sdiff (sub_sdiff (sub_sdiff (sub_sdiff (Finset.subset_univ _) (disjoint_squeezed wcH _ _ _ _ (by decide) (by decide) (by decide))) (disjoint_squeezed wcH _ _ _ _ (by decide) (by decide) (by decide))) (disjoint_squeezed wcH _ _ _ _ (by decide) (by decide) (by decide))) (disjoint_squeezed wcH _ _ _ _ (by decide) (by decide) (by decide))) (disjoint_squeezed wcH _ _ _ _ (by decide) (by decide) (by decide))) (disjoint_squeezed wcH _ _ _ _ (by decide) (by decide) (by decide))
theorem in_m0 : m0.view.set ⊆ Finset.univ :=
  Finset.subset_univ _
theorem in_m1 : m1.view.set ⊆ (Finset.univ \ m0.view.set) :=
  sub_sdiff (Finset.subset_univ _) (disjoint_squeezed mH _ _ _ _ (by decide) (by decide) (by decide))
theorem in_m2 : m2.view.set ⊆ ((Finset.univ \ m0.view.set) \ m1.view.set) :=
  sub_sdiff (sub_sdiff (Finset.subset_univ _) (disjoint_squeezed mH _ _ _ _ (by decide) (by decide) (by decide))) (disjoint_squeezed mH _ _ _ _ (by decide) (by decide) (by decide))
theorem in_m3 : m3.view.set ⊆ (((Finset.univ \ m0.view.set) \ m1.view.set) \ m2.view.set) :=
  sub_sdiff (sub_sdiff (sub_sdiff (Finset.subset_univ _) (disjoint_squeezed mH _ _ _ _ (by decide) (by decide) (by decide))) (disjoint_squeezed mH _ _ _ _ (by decide) (by decide) (by decide))) (disjoint_squeezed mH _ _ _ _ (by decide) (by decide) (by decide))
theorem in_m4 : m4.view.set ⊆ ((((Finset.univ \ m0.view.set) \ m1.view.set) \ m2.view.set) \ m3.view.set) :=
  sub_sdiff (sub_sdiff (sub_sdiff (sub_sdiff (Finset.subset_univ _) (disjoint_squeezed mH _ _ _ _ (by decide) (by decide) (by decide))) (disjoint_squeezed mH _ _ _ _ (by decide) (by decide) (by decide))) (disjoint_squeezed mH _ _ _ _ (by decide) (by decide) (by decide))) (disjoint_squeezed mH _ _ _ _ (by decide) (by decide) (by decide))

/-- A part of a buffer held at a full overwrite of it, put back into the rest of the buffer. -/
theorem put_back {c : Dev nD} {sp : Space} {s : Shape} {e : EltTy} (M : Memref sig .tc sp s e)
    {S : Finset (Idx (M.view.loc (c : Thread nD τ)))} (h : M.view.set ⊆ S) (f f' : BufAt (F := F) c M) (p : s.Idx → Elt F e) :
    (iprop((M.view.loc (c : Thread nD τ) ↦[S \ M.view.set]{fullShare} f)
        ∗ (M.view.loc (c : Thread nD τ) ↦[M.view.set]{fullShare} M.view.writes (Elt F) f' [⟨Rect.whole s, p⟩])) : sProp 𝕄)
      ⊢ M.view.loc (c : Thread nD τ) ↦[S]{fullShare} M.view.write (Elt F) f p Finset.univ := by
  have e₁ : (M.view.loc (c : Thread nD τ) ↦[M.view.set]{fullShare} M.view.writes (Elt F) f' [⟨Rect.whole s, p⟩] : sProp 𝕄)
      = M.view.loc (c : Thread nD τ) ↦[M.view.set]{fullShare} M.view.write (Elt F) f p Finset.univ := by
    rw [← View.write_univ_eq_writes_whole M.view f' [] p, View.writes_nil]
    refine pointsTo_congr fun i hi => ?_
    obtain ⟨x, -, rfl⟩ := Finset.mem_map.mp hi
    rw [View.write_emb_of_mem _ _ (Finset.mem_univ _), View.write_emb_of_mem _ _ (Finset.mem_univ _)]
  rw [e₁, pointsTo_rest_write (c : Thread nD τ) f p]
  refine BI.BIBase.Entails.trans ?_ (pointsTo_split_subset h).2
  iintro ⟨A, B⟩
  isplitl [B] <;> iassumption

/-- What the body sends into each piece of the two results: the world planes of slots 0 to 2 and the four half
    planes of slot 3, then the mask of slots 0 to 2 and its two halves for slot 3. -/
structure Sent (F : FTy → Type) where
  w0 : S2x512x512.Idx → Elt F .f32
  w1 : S2x512x512.Idx → Elt F .f32
  w2 : S2x512x512.Idx → Elt F .f32
  w3 : S256x512.Idx → Elt F .f32
  w4 : S256x512.Idx → Elt F .f32
  w5 : S256x512.Idx → Elt F .f32
  w6 : S256x512.Idx → Elt F .f32
  m0 : S512x512.Idx → Elt F .i8
  m1 : S512x512.Idx → Elt F .i8
  m2 : S512x512.Idx → Elt F .i8
  m3 : S256x512.Idx → Elt F .i8
  m4 : S256x512.Idx → Elt F .i8

/-- The world result once every piece has arrived. -/
def wcOut (c : Dev nD) (g : BufAt (F := F) c wcH) (P : Sent F) : BufAt (F := F) c wcH :=
  w0.view.write (Elt F) (w1.view.write (Elt F) (w2.view.write (Elt F) (w3.view.write (Elt F) (w4.view.write (Elt F)
    (w5.view.write (Elt F) (w6.view.write (Elt F) g P.w6 Finset.univ) P.w5 Finset.univ) P.w4 Finset.univ)
    P.w3 Finset.univ) P.w2 Finset.univ) P.w1 Finset.univ) P.w0 Finset.univ

/-- The mask result once every piece has arrived. -/
def mOut (c : Dev nD) (g : BufAt (F := F) c mH) (P : Sent F) : BufAt (F := F) c mH :=
  m0.view.write (Elt F) (m1.view.write (Elt F) (m2.view.write (Elt F) (m3.view.write (Elt F)
    (m4.view.write (Elt F) g P.m4 Finset.univ) P.m3 Finset.univ) P.m2 Finset.univ) P.m1 Finset.univ) P.m0 Finset.univ

/-- A piece of a result held by its own elements, over what the buffer held before, once its copy has arrived. -/
abbrev piece (c : Dev nD) {sp : Space} {s : Shape} {e : EltTy} (M : Memref sig .tc sp s e) (g : BufAt (F := F) c M)
    (p : s.Idx → Elt F e) : sProp 𝕄 :=
  M.view.loc (c : Thread nD τ) ↦[M.view.set]{fullShare} M.view.writes (Elt F) g [⟨Rect.whole s, p⟩]

/-- What is left of the world result once its pieces are out. -/
abbrev wRest (c : Dev nD) (g : BufAt (F := F) c wcH) : sProp 𝕄 :=
  w6.view.loc (c : Thread nD τ) ↦[(((((((Finset.univ \ w0.view.set) \ w1.view.set) \ w2.view.set) \ w3.view.set) \ w4.view.set) \ w5.view.set) \ w6.view.set)]{fullShare} g

/-- What is left of the mask result once its pieces are out. -/
abbrev mRest (c : Dev nD) (g : BufAt (F := F) c mH) : sProp 𝕄 :=
  m4.view.loc (c : Thread nD τ) ↦[(((((Finset.univ \ m0.view.set) \ m1.view.set) \ m2.view.set) \ m3.view.set) \ m4.view.set)]{fullShare} g

/-- The world result's rest and its arrived pieces are the whole result at `wcOut`. -/
theorem wc_join (c : Dev nD) (gw : BufAt (F := F) c wcH) (P : Sent F) :
    iprop(wRest c gw ∗ piece c w0 gw P.w0 ∗ piece c w1 gw P.w1 ∗ piece c w2 gw P.w2 ∗ piece c w3 gw P.w3 ∗ piece c w4 gw P.w4 ∗ piece c w5 gw P.w5 ∗ piece c w6 gw P.w6) ⊢ pt c wcH (wcOut c gw P) := by
  unfold wRest wcOut
  iintro ⟨Hwc, W0, W1, W2, W3, W4, W5, W6⟩
  ihave Hwc := put_back w6 in_w6 _ gw _ $$ [Hwc W6]
  · isplitl [Hwc] <;> iassumption
  ihave Hwc := put_back w5 in_w5 _ gw _ $$ [Hwc W5]
  · isplitl [Hwc] <;> iassumption
  ihave Hwc := put_back w4 in_w4 _ gw _ $$ [Hwc W4]
  · isplitl [Hwc] <;> iassumption
  ihave Hwc := put_back w3 in_w3 _ gw _ $$ [Hwc W3]
  · isplitl [Hwc] <;> iassumption
  ihave Hwc := put_back w2 in_w2 _ gw _ $$ [Hwc W2]
  · isplitl [Hwc] <;> iassumption
  ihave Hwc := put_back w1 in_w1 _ gw _ $$ [Hwc W1]
  · isplitl [Hwc] <;> iassumption
  ihave Hwc := put_back w0 in_w0 _ gw _ $$ [Hwc W0]
  · isplitl [Hwc] <;> iassumption
  iexact Hwc

/-- The mask result's rest and its arrived pieces are the whole result at `mOut`. -/
theorem m_join (c : Dev nD) (gm : BufAt (F := F) c mH) (P : Sent F) :
    iprop(mRest c gm ∗ piece c m0 gm P.m0 ∗ piece c m1 gm P.m1 ∗ piece c m2 gm P.m2 ∗ piece c m3 gm P.m3 ∗ piece c m4 gm P.m4) ⊢ pt c mH (mOut c gm P) := by
  unfold mRest mOut
  iintro ⟨Hm, M0, M1, M2, M3, M4⟩
  ihave Hm := put_back m4 in_m4 _ gm _ $$ [Hm M4]
  · isplitl [Hm] <;> iassumption
  ihave Hm := put_back m3 in_m3 _ gm _ $$ [Hm M3]
  · isplitl [Hm] <;> iassumption
  ihave Hm := put_back m2 in_m2 _ gm _ $$ [Hm M2]
  · isplitl [Hm] <;> iassumption
  ihave Hm := put_back m1 in_m1 _ gm _ $$ [Hm M1]
  · isplitl [Hm] <;> iassumption
  ihave Hm := put_back m0 in_m0 _ gm _ $$ [Hm M0]
  · isplitl [Hm] <;> iassumption
  iexact Hm

set_option maxHeartbeats 2000000 in
set_option sl_exec.dmaWindow true in
set_option sl_exec.resultNames true in
/-- The body's run: from the inputs, the results, the three scratch buffers and the twelve counters at zero, it ends
    with the inputs as they were, every piece of the results arrived, and the counters back at zero. -/
def bodyRun (c : Dev nD) (fs : BufAt (F := F) c sc) (fc : BufAt (F := F) c ce) (fx : BufAt (F := F) c xH)
    (gw : BufAt (F := F) c wcH) (gm : BufAt (F := F) c mH) (bx : BufAt (F := F) c xB) (bw : BufAt (F := F) c wcB)
    (bm : BufAt (F := F) c mB) :
    { P : Sent F //
      ∀ (W : Waits sig Unit) (K : PUnit → sProp 𝕄),
        iprop(pt c sc fs ∗ pt c ce fc ∗ pt c xH fx ∗ pt c wcH gw ∗ pt c mH gm ∗ pt c xB bx ∗ pt c wcB bw ∗ pt c mB bm
          ∗ semVal ((c : Thread nD τ), SemLoc.dma 2) 0 ∗ semVal ((c : Thread nD τ), SemLoc.dma 3) 0
          ∗ semVal ((c : Thread nD τ), SemLoc.dma 4) 0 ∗ semVal ((c : Thread nD τ), SemLoc.dma 5) 0
          ∗ semVal ((c : Thread nD τ), SemLoc.dma 6) 0 ∗ semVal ((c : Thread nD τ), SemLoc.dma 7) 0
          ∗ semVal ((c : Thread nD τ), SemLoc.dma 8) 0 ∗ semVal ((c : Thread nD τ), SemLoc.dma 9) 0
          ∗ semVal ((c : Thread nD τ), SemLoc.dma 10) 0 ∗ semVal ((c : Thread nD τ), SemLoc.dma 11) 0
          ∗ semVal ((c : Thread nD τ), SemLoc.dma 12) 0 ∗ semVal ((c : Thread nD τ), SemLoc.dma 13) 0
          ∗ owes (c : Thread nD τ) 0 W
          ∗ (iprop(pt c sc fs ∗ pt c ce fc ∗ pt c xH fx ∗ (wRest c gw ∗ piece c w0 gw P.w0 ∗ piece c w1 gw P.w1 ∗ piece c w2 gw P.w2 ∗ piece c w3 gw P.w3 ∗ piece c w4 gw P.w4 ∗ piece c w5 gw P.w5 ∗ piece c w6 gw P.w6)
              ∗ (mRest c gm ∗ piece c m0 gm P.m0 ∗ piece c m1 gm P.m1 ∗ piece c m2 gm P.m2 ∗ piece c m3 gm P.m3 ∗ piece c m4 gm P.m4)
              ∗ (∃ f, pt c xB f) ∗ (∃ f, pt c wcB f) ∗ (∃ f, pt c mB f)
              ∗ semVal ((c : Thread nD τ), SemLoc.dma 2) 0 ∗ semVal ((c : Thread nD τ), SemLoc.dma 3) 0
              ∗ semVal ((c : Thread nD τ), SemLoc.dma 4) 0 ∗ semVal ((c : Thread nD τ), SemLoc.dma 5) 0
              ∗ semVal ((c : Thread nD τ), SemLoc.dma 6) 0 ∗ semVal ((c : Thread nD τ), SemLoc.dma 7) 0
              ∗ semVal ((c : Thread nD τ), SemLoc.dma 8) 0 ∗ semVal ((c : Thread nD τ), SemLoc.dma 9) 0
              ∗ semVal ((c : Thread nD τ), SemLoc.dma 10) 0 ∗ semVal ((c : Thread nD τ), SemLoc.dma 11) 0
              ∗ semVal ((c : Thread nD τ), SemLoc.dma 12) 0 ∗ semVal ((c : Thread nD τ), SemLoc.dma 13) 0
              ∗ (∃ W', owes (c : Thread nD τ) 0 W')) -∗ K ⟨⟩))
          ⊢ wp frame (wpE (defs₀ (F := F)) Variants.none c none) Set.univ
              (cc0__nms_body sc (Memref.isWhole_whole _) ce (Memref.isWhole_whole _) xH (Memref.isWhole_whole _)
                wcH (Memref.isWhole_whole _) mH (Memref.isWhole_whole _) xB (Memref.isWhole_whole _)
                wcB (Memref.isWhole_whole _) mB (Memref.isWhole_whole _) cc0_scratch3 cc0_scratch4 cc0_scratch5) K } := by
  refine ⟨⟨?w0, ?w1, ?w2, ?w3, ?w4, ?w5, ?w6, ?m0, ?m1, ?m2, ?m3, ?m4⟩, fun W K => ?run⟩
  case run =>
    have hp9 : Transfers.BatchOf (c : Thread nD τ) (SemLoc.dma (sig := sig) 9) 2 := trivial
    have hp13 : Transfers.BatchOf (c : Thread nD τ) (SemLoc.dma (sig := sig) 13) 2 := trivial
    simp only [cc0__nms_body_eq_skeleton]; unfold cc0__nms_body_skel
    iintro ⟨Hs, Hc, Hx, Hwc, Hm, Bx, Bw, Bm, S2, S3, S4, S5, S6, S7, S8, S9, S10, S11, S12, S13, HW, Hk⟩
    ihave T := carve w0 in_w0 gw $$ Hwc
    icases T with ⟨Hwc, W0⟩
    ihave T := carve w1 in_w1 gw $$ Hwc
    icases T with ⟨Hwc, W1⟩
    ihave T := carve w2 in_w2 gw $$ Hwc
    icases T with ⟨Hwc, W2⟩
    ihave T := carve w3 in_w3 gw $$ Hwc
    icases T with ⟨Hwc, W3⟩
    ihave T := carve w4 in_w4 gw $$ Hwc
    icases T with ⟨Hwc, W4⟩
    ihave T := carve w5 in_w5 gw $$ Hwc
    icases T with ⟨Hwc, W5⟩
    ihave T := carve w6 in_w6 gw $$ Hwc
    icases T with ⟨Hwc, W6⟩
    ihave T := carve m0 in_m0 gm $$ Hm
    icases T with ⟨Hm, M0⟩
    ihave T := carve m1 in_m1 gm $$ Hm
    icases T with ⟨Hm, M1⟩
    ihave T := carve m2 in_m2 gm $$ Hm
    icases T with ⟨Hm, M2⟩
    ihave T := carve m3 in_m3 gm $$ Hm
    icases T with ⟨Hm, M3⟩
    ihave T := carve m4 in_m4 gm $$ Hm
    icases T with ⟨Hm, M4⟩
    sl_exec
    have hp5 : Transfers.BatchOf (c : Thread nD τ) (SemLoc.dma (sig := sig) 5) 2 := trivial
    sl_exec
    sl_exec
    sl_exec
    sl_exec
    sl_exec
    sl_exec
    sl_step
    iapply Hk
    isplitl [Hs]
    · iexact Hs
    isplitl [Hc]
    · iexact Hc
    isplitl [Hx]
    · iexact Hx
    isplitl [Hwc W0 W1 W2 W3 W4 W5 W6]
    · isplitl [Hwc]; · iexact Hwc
      isplitl [W0]; · iexact W0
      isplitl [W1]; · iexact W1
      isplitl [W2]; · iexact W2
      isplitl [W3]; · iexact W3
      isplitl [W4]; · iexact W4
      isplitl [W5]; · iexact W5
      iexact W6
    isplitl [Hm M0 M1 M2 M3 M4]
    · isplitl [Hm]; · iexact Hm
      isplitl [M0]; · iexact M0
      isplitl [M1]; · iexact M1
      isplitl [M2]; · iexact M2
      isplitl [M3]; · iexact M3
      iexact M4
    isplitl [Bx]
    · iexists _; iexact Bx
    isplitl [Bw]
    · iexists _; iexact Bw
    isplitl [Bm]
    · iexists _; iexact Bm
    isplitl [S2]
    · iexact S2
    isplitl [S3]
    · iexact S3
    isplitl [S4]
    · iexact S4
    isplitl [S5]
    · iexact S5
    isplitl [S6]
    · iexact S6
    isplitl [S7]
    · iexact S7
    isplitl [S8]
    · iexact S8
    isplitl [S9]
    · iexact S9
    isplitl [S10]
    · iexact S10
    isplitl [S11]
    · iexact S11
    isplitl [S12]
    · iexact S12
    isplitl [S13]
    · iexact S13
    iexists _; iexact HW

end Cert.KernelIdeal.Hand

end
-- ==== Proof.Reads.lean ====
module

public import proofs.«01_k».proof.Proof.Body
public import Idealize.ShloMosaic.Lib.Pointwise
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe
open Idealize.SL.Sem

variable {F : FTy → Type} [FloatOps F]

/-- Slot `b` of the input, as the block the body loads. -/
def xs (c : Dev nD) (fx : BufAt (F := F) c xH) (b : Fin 4) : Vec F S1x512x512 .f32 :=
  fun i => fx (ix4 b 0 (i 1) (i 2))

/-- An element of the slice a copy filled reads the copy's payload at its place in the slice. -/
theorem read_fill_hit {sp : Space} {S S' : Shape} {e : EltTy} (M : Memref sig .tc sp S e) {off size : Fin S.rank → ℕ}
    (inb : ∀ a, off a + size a ≤ S.size a) (h) (k : (Rect.unit off size inb).shape.Squeezes S') (f : M.view.ty.Contents (Elt F))
    (p : S'.Idx → Elt F e) (z : S.Idx) (y : S'.Idx) (x : (Rect.unit off size inb).shape.Idx)
    (hx : ∀ a, (z a).val = off a + (x a).val) (hy : Shape.reshapeEquiv k.numel_eq.symm x = y) :
    M.view.read (Elt F) (((M.slice (Rect.unit off size inb) h).squeeze S' k).view.write (Elt F) f p Finset.univ) z = p y := by
  subst hy
  refine (congrFun (congrArg (M.view.read (Elt F)) (View.write_reshape_univ (M.view.slice (Rect.unit off size inb)) k.numel_eq f p)) z).trans ?_
  exact View.read_writes_cons_unit_of_mem M.view f inb _ [] z x rfl hx

/-- An element outside the slice a copy filled reads what was there before. -/
theorem read_fill_miss {sp : Space} {S S' : Shape} {e : EltTy} (M : Memref sig .tc sp S e) {off size : Fin S.rank → ℕ}
    (inb : ∀ a, off a + size a ≤ S.size a) (h) (k : (Rect.unit off size inb).shape.Squeezes S') (f : M.view.ty.Contents (Elt F))
    (p : S'.Idx → Elt F e) (z : S.Idx) (a : Fin S.rank) (ha : (z a).val < off a ∨ off a + size a ≤ (z a).val) :
    M.view.read (Elt F) (((M.slice (Rect.unit off size inb) h).squeeze S' k).view.write (Elt F) f p Finset.univ) z
      = M.view.read (Elt F) f z := by
  refine (congrFun (congrArg (M.view.read (Elt F)) (View.write_reshape_univ (M.view.slice (Rect.unit off size inb)) k.numel_eq f p)) z).trans ?_
  exact View.read_writes_cons_unit_of_not_mem M.view f inb _ [] z rfl a ha

/-- What a squeezed slice of a buffer reads at an index is the buffer's element at that index's place. -/
theorem read_cut {sp : Space} {S S' : Shape} {e : EltTy} (M : Memref sig .tc sp S e) {off size : Fin S.rank → ℕ}
    (inb : ∀ a, off a + size a ≤ S.size a) (h) (k : (Rect.unit off size inb).shape.Squeezes S') (f : M.view.ty.Contents (Elt F))
    (y : S'.Idx) (z : S.Idx) (x : (Rect.unit off size inb).shape.Idx) (hy : Shape.reshapeEquiv k.numel_eq y = x)
    (hx : ∀ a, (z a).val = off a + (x a).val) :
    ((M.slice (Rect.unit off size inb) h).squeeze S' k).view.read (Elt F) f y = M.view.read (Elt F) f z := by
  subst hy
  have hz : (Rect.unit off size inb).emb (Shape.reshapeEquiv k.numel_eq y) = z := funext fun a => Fin.ext (by
    show off a + 1 * _ = (z a).val
    rw [hx a, Nat.one_mul])
  exact congrArg (M.view.read (Elt F) f) hz

/-- The five input copies as the body's loads find them: every slot of the buffer holds the input's. -/
theorem xB_filled (c : Dev nD) (fx : BufAt (F := F) c xH) (bx : BufAt (F := F) c xB) (b : Fin 4) (i j : Fin 512) :
    xB.view.read (Elt F) (((xB.slice (Rect.unit (s := S4x512x512) ![3, 0, 0] S1x512x512.size inb_S4x512x512_S1x512x512_3_0_0) (fun _ => rfl)).squeeze S512x512 squeezes_S1x512x512_S512x512).view.write (Elt F)
      (((xB.slice (Rect.unit (s := S4x512x512) ![2, 0, 0] S1x512x512.size inb_S4x512x512_S1x512x512_2_0_0) (fun _ => rfl)).squeeze S512x512 squeezes_S1x512x512_S512x512).view.write (Elt F)
      (((xB.slice (Rect.unit (s := S4x512x512) ![1, 0, 0] S1x512x512.size inb_S4x512x512_S1x512x512_1_0_0) (fun _ => rfl)).squeeze S512x512 squeezes_S1x512x512_S512x512).view.write (Elt F)
      (((xB.slice (Rect.unit (s := S4x512x512) ![0, 256, 0] S1x256x512.size inb_S4x512x512_S1x256x512_0_256_0) (fun _ => rfl)).squeeze S256x512 squeezes_S1x256x512_S256x512).view.write (Elt F)
      (((xB.slice (Rect.unit (s := S4x512x512) ![0, 0, 0] S1x256x512.size inb_S4x512x512_S1x256x512_0_0_0) (fun _ => rfl)).squeeze S256x512 squeezes_S1x256x512_S256x512).view.write (Elt F)
        bx (bodyRun.sl.dma0 c fx) Finset.univ) (bodyRun.sl.dma0_1 c fx) Finset.univ) (bodyRun.sl.dma0_2 c fx) Finset.univ)
        (bodyRun.sl.dma0_3 c fx) Finset.univ) (bodyRun.sl.dma0_4 c fx) Finset.univ) (ix3 b i j) = fx (ix4 b 0 i j) := by
  fin_cases b
  · refine (read_fill_miss xB _ _ _ _ _ _ (0 : Fin 3) (Or.inl (show (0 : ℕ) < 3 by omega))).trans ?_
    refine (read_fill_miss xB _ _ _ _ _ _ (0 : Fin 3) (Or.inl (show (0 : ℕ) < 2 by omega))).trans ?_
    refine (read_fill_miss xB _ _ _ _ _ _ (0 : Fin 3) (Or.inl (show (0 : ℕ) < 1 by omega))).trans ?_
    by_cases hi : (i : ℕ) < 256
    · refine (read_fill_miss xB _ _ _ _ _ _ (1 : Fin 3) (Or.inl hi)).trans ?_
      refine (read_fill_hit xB _ _ _ _ _ _ (ix2 ⟨i, hi⟩ j : S256x512.Idx) (ix3 0 ⟨i, hi⟩ j : S1x256x512.Idx)
        (by intro a; fin_cases a <;> simp) (by pointwise)).trans ?_
      exact read_cut xH _ _ _ fx _ (ix4 0 0 i j) (ix4 0 0 ⟨i, hi⟩ j : S1x1x256x512.Idx) (by pointwise) (by intro a; fin_cases a <;> simp)
    · have h2 : (i : ℕ) = 256 + (i - 256) := by omega
      have h3 : (i : ℕ) - 256 < 256 := by have := i.isLt; omega
      refine (read_fill_hit xB _ _ _ _ _ _ (ix2 ⟨i - 256, h3⟩ j : S256x512.Idx) (ix3 0 ⟨i - 256, h3⟩ j : S1x256x512.Idx)
        (by intro a; fin_cases a <;> simp [← h2]) (by pointwise)).trans ?_
      exact read_cut xH _ _ _ fx _ (ix4 0 0 i j) (ix4 0 0 ⟨i - 256, h3⟩ j : S1x1x256x512.Idx) (by pointwise)
        (by intro a; fin_cases a <;> simp [← h2])
  · refine (read_fill_miss xB _ _ _ _ _ _ (0 : Fin 3) (Or.inl (show (1 : ℕ) < 3 by omega))).trans ?_
    refine (read_fill_miss xB _ _ _ _ _ _ (0 : Fin 3) (Or.inl (show (1 : ℕ) < 2 by omega))).trans ?_
    refine (read_fill_hit xB _ _ _ _ _ _ (ix2 i j : S512x512.Idx) (ix3 0 i j : S1x512x512.Idx)
      (by intro a; fin_cases a <;> simp) (by pointwise)).trans ?_
    exact read_cut xH _ _ _ fx _ (ix4 1 0 i j) (ix4 0 0 i j : S1x1x512x512.Idx) (by pointwise) (by intro a; fin_cases a <;> simp)
  · refine (read_fill_miss xB _ _ _ _ _ _ (0 : Fin 3) (Or.inl (show (2 : ℕ) < 3 by omega))).trans ?_
    refine (read_fill_hit xB _ _ _ _ _ _ (ix2 i j : S512x512.Idx) (ix3 0 i j : S1x512x512.Idx)
      (by intro a; fin_cases a <;> simp) (by pointwise)).trans ?_
    exact read_cut xH _ _ _ fx _ (ix4 2 0 i j) (ix4 0 0 i j : S1x1x512x512.Idx) (by pointwise) (by intro a; fin_cases a <;> simp)
  · refine (read_fill_hit xB _ _ _ _ _ _ (ix2 i j : S512x512.Idx) (ix3 0 i j : S1x512x512.Idx)
      (by intro a; fin_cases a <;> simp) (by pointwise)).trans ?_
    exact read_cut xH _ _ _ fx _ (ix4 3 0 i j) (ix4 0 0 i j : S1x1x512x512.Idx) (by pointwise) (by intro a; fin_cases a <;> simp)

/-- Slot 0's load is the input's slot 0. -/
theorem load0 (c : Dev nD) (fx : BufAt (F := F) c xH) (bx : BufAt (F := F) c xB) : bodyRun.sl.v46 c fx bx = xs c fx 0 := by
  funext y
  have hz : (Rect.unit (s := S4x512x512) ![0, 0, 0] S1x512x512.size inb_S4x512x512_S1x512x512_0_0_0).toLoadRect.idx y
      = ix3 0 (y 1) (y 2) := by
    funext a; apply Fin.ext
    have h0 : (y 0).val = 0 := by have := (y 0).isLt; simp at this; omega
    fin_cases a <;> simp [LoadRect.idx, h0]
  refine Eq.trans ?_ (xB_filled c fx bx 0 (y 1) (y 2))
  exact congrArg (xB.view.read (Elt F) _) hz

/-- Slot 1's load is the input's slot 1. -/
theorem load1 (c : Dev nD) (fx : BufAt (F := F) c xH) (bx : BufAt (F := F) c xB) : bodyRun.sl.v124 c fx bx = xs c fx 1 := by
  funext y
  have hz : (Rect.unit (s := S4x512x512) ![1, 0, 0] S1x512x512.size inb_S4x512x512_S1x512x512_1_0_0).toLoadRect.idx y
      = ix3 1 (y 1) (y 2) := by
    funext a; apply Fin.ext
    have h0 : (y 0).val = 0 := by have := (y 0).isLt; simp at this; omega
    fin_cases a <;> simp [LoadRect.idx, h0]
  refine Eq.trans ?_ (xB_filled c fx bx 1 (y 1) (y 2))
  exact congrArg (xB.view.read (Elt F) _) hz

/-- Slot 2's load is the input's slot 2. -/
theorem load2 (c : Dev nD) (fx : BufAt (F := F) c xH) (bx : BufAt (F := F) c xB) : bodyRun.sl.v202 c fx bx = xs c fx 2 := by
  funext y
  have hz : (Rect.unit (s := S4x512x512) ![2, 0, 0] S1x512x512.size inb_S4x512x512_S1x512x512_2_0_0).toLoadRect.idx y
      = ix3 2 (y 1) (y 2) := by
    funext a; apply Fin.ext
    have h0 : (y 0).val = 0 := by have := (y 0).isLt; simp at this; omega
    fin_cases a <;> simp [LoadRect.idx, h0]
  refine Eq.trans ?_ (xB_filled c fx bx 2 (y 1) (y 2))
  exact congrArg (xB.view.read (Elt F) _) hz

/-- Slot 3's load is the input's slot 3. -/
theorem load3 (c : Dev nD) (fx : BufAt (F := F) c xH) (bx : BufAt (F := F) c xB) : bodyRun.sl.v280 c fx bx = xs c fx 3 := by
  funext y
  have hz : (Rect.unit (s := S4x512x512) ![3, 0, 0] S1x512x512.size inb_S4x512x512_S1x512x512_3_0_0).toLoadRect.idx y
      = ix3 3 (y 1) (y 2) := by
    funext a; apply Fin.ext
    have h0 : (y 0).val = 0 := by have := (y 0).isLt; simp at this; omega
    fin_cases a <;> simp [LoadRect.idx, h0]
  refine Eq.trans ?_ (xB_filled c fx bx 3 (y 1) (y 2))
  exact congrArg (xB.view.read (Elt F) _) hz

/-- Slot 0's scale word. -/
theorem scale0 (c : Dev nD) (fs : BufAt (F := F) c sc) : bodyRun.sl.v48 c fs = fs (ix1 0) := by
  show fs _ = fs _
  refine congrArg fs (funext fun a => Fin.ext ?_)
  fin_cases a; rfl

/-- Slot 1's scale word. -/
theorem scale1 (c : Dev nD) (fs : BufAt (F := F) c sc) : bodyRun.sl.v126 c fs = fs (ix1 1) := by
  show fs _ = fs _
  refine congrArg fs (funext fun a => Fin.ext ?_)
  fin_cases a; rfl

/-- Slot 2's scale word. -/
theorem scale2 (c : Dev nD) (fs : BufAt (F := F) c sc) : bodyRun.sl.v204 c fs = fs (ix1 2) := by
  show fs _ = fs _
  refine congrArg fs (funext fun a => Fin.ext ?_)
  fin_cases a; rfl

/-- Slot 3's scale word. -/
theorem scale3 (c : Dev nD) (fs : BufAt (F := F) c sc) : bodyRun.sl.v282 c fs = fs (ix1 3) := by
  show fs _ = fs _
  refine congrArg fs (funext fun a => Fin.ext ?_)
  fin_cases a; rfl

/-- Word 0 of the centers. -/
theorem center0 (c : Dev nD) (fc : BufAt (F := F) c ce) : bodyRun.sl.v49 c fc = fc (ix1 0) := by
  show fc _ = fc _
  refine congrArg fc (funext fun a => Fin.ext ?_)
  fin_cases a; rfl

/-- Word 1 of the centers. -/
theorem center1 (c : Dev nD) (fc : BufAt (F := F) c ce) : bodyRun.sl.v52 c fc = fc (ix1 1) := by
  show fc _ = fc _
  refine congrArg fc (funext fun a => Fin.ext ?_)
  fin_cases a; rfl

/-- Word 2 of the centers. -/
theorem center2 (c : Dev nD) (fc : BufAt (F := F) c ce) : bodyRun.sl.v127 c fc = fc (ix1 2) := by
  show fc _ = fc _
  refine congrArg fc (funext fun a => Fin.ext ?_)
  fin_cases a; rfl

/-- Word 3 of the centers. -/
theorem center3 (c : Dev nD) (fc : BufAt (F := F) c ce) : bodyRun.sl.v130 c fc = fc (ix1 3) := by
  show fc _ = fc _
  refine congrArg fc (funext fun a => Fin.ext ?_)
  fin_cases a; rfl

/-- Word 4 of the centers. -/
theorem center4 (c : Dev nD) (fc : BufAt (F := F) c ce) : bodyRun.sl.v205 c fc = fc (ix1 4) := by
  show fc _ = fc _
  refine congrArg fc (funext fun a => Fin.ext ?_)
  fin_cases a; rfl

/-- Word 5 of the centers. -/
theorem center5 (c : Dev nD) (fc : BufAt (F := F) c ce) : bodyRun.sl.v208 c fc = fc (ix1 5) := by
  show fc _ = fc _
  refine congrArg fc (funext fun a => Fin.ext ?_)
  fin_cases a; rfl

/-- Word 6 of the centers. -/
theorem center6 (c : Dev nD) (fc : BufAt (F := F) c ce) : bodyRun.sl.v283 c fc = fc (ix1 6) := by
  show fc _ = fc _
  refine congrArg fc (funext fun a => Fin.ext ?_)
  fin_cases a; rfl

/-- Word 7 of the centers. -/
theorem center7 (c : Dev nD) (fc : BufAt (F := F) c ce) : bodyRun.sl.v286 c fc = fc (ix1 7) := by
  show fc _ = fc _
  refine congrArg fc (funext fun a => Fin.ext ?_)
  fin_cases a; rfl

end Cert.KernelIdeal.Hand

end
-- ==== Proof.Sent.lean ====
module

public import proofs.«01_k».proof.Proof.Reads

@[expose] public section

set_option maxRecDepth 16384

noncomputable section

namespace Cert.KernelIdeal.Hand

open Cert.KernelIdeal Cert.KernelIdeal.Gen
open Idealize.ShloMosaic Idealize.ShloMosaic.TcCoe
open Idealize.SL.Sem

variable {F : FTy → Type} [FloatOps F]

/-- Everything the body sends, named by the input, the scale and the centers alone. -/
def sentOf (c : Dev nD) (fs : BufAt (F := F) c sc) (fc : BufAt (F := F) c ce) (fx : BufAt (F := F) c xH) : Sent F where
  w0 y := if (y 0).val = 0 then
      k0_pay6 k0_pay1 (k0_pay3 (xs c fx 0)) (fs (ix1 0)) (fc (ix1 0)) (k0_pay4 (fs (ix1 0))) (ix4 0 0 (y 1) (y 2))
    else k0_pay8 (k0_pay5 (k0_pay3 (xs c fx 0))) (k0_pay7 k0_pay2 (fs (ix1 0)) (fc (ix1 1))) (ix4 0 0 (y 1) (y 2))
  w1 y := if (y 0).val = 0 then
      k0_pay14 (k0_pay11 (xs c fx 1)) (k0_pay12 k0_pay1 (fs (ix1 1)) (fc (ix1 2))) k0_pay13 (ix4 0 0 (y 1) (y 2))
    else k0_pay15 k0_pay2 (fs (ix1 1)) (k0_pay10 (fs (ix1 1)) (fc (ix1 3))) (k0_pay11 (xs c fx 1)) (ix4 0 0 (y 1) (y 2))
  w2 y := if (y 0).val = 0 then
      k0_pay25 k0_pay1 (k0_pay17 (xs c fx 2)) (fs (ix1 2)) (k0_pay18 (fs (ix1 2)) (fc (ix1 4))) (k0_pay20 (xs c fx 2))
        k0_pay21 (k0_pay22 (xs c fx 2)) (k0_pay23 (xs c fx 2)) (ix4 0 0 (y 1) (y 2))
    else k0_pay26 k0_pay2 (k0_pay17 (xs c fx 2)) (fs (ix1 2)) (k0_pay19 (fs (ix1 2)) (fc (ix1 5))) (k0_pay20 (xs c fx 2))
        k0_pay21 (k0_pay22 (xs c fx 2)) (k0_pay23 (xs c fx 2)) (ix4 0 0 (y 1) (y 2))
  w3 y := k0_pay36 k0_pay1 (fs (ix1 3)) (k0_pay29 (fs (ix1 3)) (fc (ix1 6))) (k0_pay31 (xs c fx 3)) k0_pay32
      (k0_pay33 (xs c fx 3)) (k0_pay34 (xs c fx 3)) (ix4 0 0 (y 0) (y 1))
  w4 y := k0_pay37 k0_pay2 (fs (ix1 3)) (k0_pay30 (fs (ix1 3)) (fc (ix1 7))) (k0_pay31 (xs c fx 3)) k0_pay32
      (k0_pay33 (xs c fx 3)) (k0_pay34 (xs c fx 3)) (ix4 0 0 (y 0) (y 1))
  w5 y := k0_pay44 k0_pay1 (fs (ix1 3)) (k0_pay29 (fs (ix1 3)) (fc (ix1 6))) (k0_pay40 (k0_pay28 (xs c fx 3)))
      (k0_pay41 (k0_pay28 (xs c fx 3)) (k0_pay31 (xs c fx 3))) k0_pay42 (ix4 0 0 (y 0) (y 1))
  w6 y := k0_pay45 k0_pay2 (fs (ix1 3)) (k0_pay30 (fs (ix1 3)) (fc (ix1 7))) (k0_pay40 (k0_pay28 (xs c fx 3)))
      (k0_pay41 (k0_pay28 (xs c fx 3)) (k0_pay31 (xs c fx 3))) k0_pay42 (ix4 0 0 (y 0) (y 1))
  m0 y := k0_pay9 (k0_pay5 (k0_pay3 (xs c fx 0))) (ix3 0 (y 0) (y 1))
  m1 y := k0_pay16 (k0_pay11 (xs c fx 1)) (ix3 0 (y 0) (y 1))
  m2 y := k0_pay27 (k0_pay17 (xs c fx 2)) (k0_pay20 (xs c fx 2)) k0_pay21 (k0_pay22 (xs c fx 2)) (k0_pay23 (xs c fx 2)) (ix3 0 (y 0) (y 1))
  m3 y := k0_pay39 (k0_pay38 (k0_pay31 (xs c fx 3)) k0_pay32 (k0_pay33 (xs c fx 3)) (k0_pay34 (xs c fx 3))) (ix3 0 (y 0) (y 1))
  m4 y := k0_pay46 (k0_pay40 (k0_pay28 (xs c fx 3))) (k0_pay41 (k0_pay28 (xs c fx 3)) (k0_pay31 (xs c fx 3))) k0_pay42 (ix3 0 (y 0) (y 1))

section
variable (c : Dev nD) (fs : BufAt (F := F) c sc) (fc : BufAt (F := F) c ce) (fx : BufAt (F := F) c xH)
  (bx : BufAt (F := F) c xB) (bw : BufAt (F := F) c wcB) (bm : BufAt (F := F) c mB)

/-- The world planes sent for slot 0. -/
theorem sent_w0 : bodyRun.sl.dma10 c fs fc fx bx bw = (sentOf c fs fc fx).w0 := by
  funext y
  obtain ⟨p, i, j, rfl⟩ : ∃ (p : Fin 2) (i j : Fin 512), y = ix3 p i j := ⟨y 0, y 1, y 2, eq_ix3 y⟩
  refine (read_cut wcB _ _ _ _ _ (ix4 0 p i j) (ix4 0 p i j : S1x2x512x512.Idx) (by pointwise) (by intro a; fin_cases a <;> simp)).trans ?_
  unfold bodyRun.sl.Bw_2
  fin_cases p
  · refine (View.read_writes_cons_unit_of_not_mem wcB.view _ _ _ _ _ rfl (1 : Fin 4) (Or.inl (show (0 : ℕ) < 1 by omega))).trans ?_
    refine (View.read_writes_cons_unit_of_mem wcB.view _ _ _ _ _ (ix4 0 0 i j : S1x1x512x512.Idx) rfl (by intro a; fin_cases a <;> simp)).trans ?_
    simp only [bodyRun.sl.v47, bodyRun.sl.v50, bodyRun.sl.v82, bodyRun.sl.v96, bodyRun.sl.v132, bodyRun.sl.v160, bodyRun.sl.v164, bodyRun.sl.v203, bodyRun.sl.v207, bodyRun.sl.v210, bodyRun.sl.v223, bodyRun.sl.v227, bodyRun.sl.v230, bodyRun.sl.v281, bodyRun.sl.v285, bodyRun.sl.v288, bodyRun.sl.v292, bodyRun.sl.v294, bodyRun.sl.v295, bodyRun.sl.v337, bodyRun.sl.v360, bodyRun.sl.v365, load0, load1, load2, load3, scale0, scale1, scale2, scale3, center0, center1, center2, center3, center4, center5, center6, center7]
    rfl
  · refine (View.read_writes_cons_unit_of_mem wcB.view _ _ _ _ _ (ix4 0 0 i j : S1x1x512x512.Idx) rfl (by intro a; fin_cases a <;> simp)).trans ?_
    simp only [bodyRun.sl.v47, bodyRun.sl.v50, bodyRun.sl.v82, bodyRun.sl.v96, bodyRun.sl.v132, bodyRun.sl.v160, bodyRun.sl.v164, bodyRun.sl.v203, bodyRun.sl.v207, bodyRun.sl.v210, bodyRun.sl.v223, bodyRun.sl.v227, bodyRun.sl.v230, bodyRun.sl.v281, bodyRun.sl.v285, bodyRun.sl.v288, bodyRun.sl.v292, bodyRun.sl.v294, bodyRun.sl.v295, bodyRun.sl.v337, bodyRun.sl.v360, bodyRun.sl.v365, load0, load1, load2, load3, scale0, scale1, scale2, scale3, center0, center1, center2, center3, center4, center5, center6, center7]
    rfl

/-- The world planes sent for slot 1. -/
theorem sent_w1 : bodyRun.sl.dma20 c fs fc fx bx bw = (sentOf c fs fc fx).w1 := by
  funext y
  obtain ⟨p, i, j, rfl⟩ : ∃ (p : Fin 2) (i j : Fin 512), y = ix3 p i j := ⟨y 0, y 1, y 2, eq_ix3 y⟩
  refine (read_cut wcB _ _ _ _ _ (ix4 1 p i j) (ix4 0 p i j : S1x2x512x512.Idx) (by pointwise) (by intro a; fin_cases a <;> simp)).trans ?_
  unfold bodyRun.sl.Bw_4
  fin_cases p
  · refine (View.read_writes_cons_unit_of_not_mem wcB.view _ _ _ _ _ rfl (1 : Fin 4) (Or.inl (show (0 : ℕ) < 1 by omega))).trans ?_
    refine (View.read_writes_cons_unit_of_mem wcB.view _ _ _ _ _ (ix4 0 0 i j : S1x1x512x512.Idx) rfl (by intro a; fin_cases a <;> simp)).trans ?_
    simp only [bodyRun.sl.v47, bodyRun.sl.v50, bodyRun.sl.v82, bodyRun.sl.v96, bodyRun.sl.v132, bodyRun.sl.v160, bodyRun.sl.v164, bodyRun.sl.v203, bodyRun.sl.v207, bodyRun.sl.v210, bodyRun.sl.v223, bodyRun.sl.v227, bodyRun.sl.v230, bodyRun.sl.v281, bodyRun.sl.v285, bodyRun.sl.v288, bodyRun.sl.v292, bodyRun.sl.v294, bodyRun.sl.v295, bodyRun.sl.v337, bodyRun.sl.v360, bodyRun.sl.v365, load0, load1, load2, load3, scale0, scale1, scale2, scale3, center0, center1, center2, center3, center4, center5, center6, center7]
    rfl
  · refine (View.read_writes_cons_unit_of_mem wcB.view _ _ _ _ _ (ix4 0 0 i j : S1x1x512x512.Idx) rfl (by intro a; fin_cases a <;> simp)).trans ?_
    simp only [bodyRun.sl.v47, bodyRun.sl.v50, bodyRun.sl.v82, bodyRun.sl.v96, bodyRun.sl.v132, bodyRun.sl.v160, bodyRun.sl.v164, bodyRun.sl.v203, bodyRun.sl.v207, bodyRun.sl.v210, bodyRun.sl.v223, bodyRun.sl.v227, bodyRun.sl.v230, bodyRun.sl.v281, bodyRun.sl.v285, bodyRun.sl.v288, bodyRun.sl.v292, bodyRun.sl.v294, bodyRun.sl.v295, bodyRun.sl.v337, bodyRun.sl.v360, bodyRun.sl.v365, load0, load1, load2, load3, scale0, scale1, scale2, scale3, center0, center1, center2, center3, center4, center5, center6, center7]
    rfl

/-- The world planes sent for slot 2. -/
theorem sent_w2 : bodyRun.sl.dma30 c fs fc fx bx bw = (sentOf c fs fc fx).w2 := by
  funext y
  obtain ⟨p, i, j, rfl⟩ : ∃ (p : Fin 2) (i j : Fin 512), y = ix3 p i j := ⟨y 0, y 1, y 2, eq_ix3 y⟩
  refine (read_cut wcB _ _ _ _ _ (ix4 2 p i j) (ix4 0 p i j : S1x2x512x512.Idx) (by pointwise) (by intro a; fin_cases a <;> simp)).trans ?_
  unfold bodyRun.sl.Bw_6
  fin_cases p
  · refine (View.read_writes_cons_unit_of_not_mem wcB.view _ _ _ _ _ rfl (1 : Fin 4) (Or.inl (show (0 : ℕ) < 1 by omega))).trans ?_
    refine (View.read_writes_cons_unit_of_mem wcB.view _ _ _ _ _ (ix4 0 0 i j : S1x1x512x512.Idx) rfl (by intro a; fin_cases a <;> simp)).trans ?_
    simp only [bodyRun.sl.v47, bodyRun.sl.v50, bodyRun.sl.v82, bodyRun.sl.v96, bodyRun.sl.v132, bodyRun.sl.v160, bodyRun.sl.v164, bodyRun.sl.v203, bodyRun.sl.v207, bodyRun.sl.v210, bodyRun.sl.v223, bodyRun.sl.v227, bodyRun.sl.v230, bodyRun.sl.v281, bodyRun.sl.v285, bodyRun.sl.v288, bodyRun.sl.v292, bodyRun.sl.v294, bodyRun.sl.v295, bodyRun.sl.v337, bodyRun.sl.v360, bodyRun.sl.v365, load0, load1, load2, load3, scale0, scale1, scale2, scale3, center0, center1, center2, center3, center4, center5, center6, center7]
    rfl
  · refine (View.read_writes_cons_unit_of_mem wcB.view _ _ _ _ _ (ix4 0 0 i j : S1x1x512x512.Idx) rfl (by intro a; fin_cases a <;> simp)).trans ?_
    simp only [bodyRun.sl.v47, bodyRun.sl.v50, bodyRun.sl.v82, bodyRun.sl.v96, bodyRun.sl.v132, bodyRun.sl.v160, bodyRun.sl.v164, bodyRun.sl.v203, bodyRun.sl.v207, bodyRun.sl.v210, bodyRun.sl.v223, bodyRun.sl.v227, bodyRun.sl.v230, bodyRun.sl.v281, bodyRun.sl.v285, bodyRun.sl.v288, bodyRun.sl.v292, bodyRun.sl.v294, bodyRun.sl.v295, bodyRun.sl.v337, bodyRun.sl.v360, bodyRun.sl.v365, load0, load1, load2, load3, scale0, scale1, scale2, scale3, center0, center1, center2, center3, center4, center5, center6, center7]
    rfl

/-- The half plane sent for plane 0 of slot 3 from row 0. -/
theorem sent_w3 : bodyRun.sl.dma51 c fs fc fx bx bw = (sentOf c fs fc fx).w3 := by
  funext y
  obtain ⟨i, j, rfl⟩ : ∃ (i : Fin 256) (j : Fin 512), y = ix2 i j := ⟨y 0, y 1, eq_ix2 y⟩
  have hi := i.isLt
  refine (read_cut wcB _ _ _ _ _ (ix4 3 0 ⟨0 + i, by omega⟩ j) (ix4 0 0 i j : S1x1x256x512.Idx) (by pointwise) (by intro a; fin_cases a <;> simp)).trans ?_
  unfold bodyRun.sl.Bw_8
  refine (View.read_writes_cons_unit_of_not_mem wcB.view _ _ _ _ _ rfl (1 : Fin 4) (Or.inl (show (0 : ℕ) < 1 by omega))).trans ?_
  refine (View.read_writes_cons_unit_of_mem wcB.view _ _ _ _ _ (ix4 0 0 i j : S1x1x256x512.Idx) rfl (by intro a; fin_cases a <;> simp)).trans ?_
  simp only [bodyRun.sl.v47, bodyRun.sl.v50, bodyRun.sl.v82, bodyRun.sl.v96, bodyRun.sl.v132, bodyRun.sl.v160, bodyRun.sl.v164, bodyRun.sl.v203, bodyRun.sl.v207, bodyRun.sl.v210, bodyRun.sl.v223, bodyRun.sl.v227, bodyRun.sl.v230, bodyRun.sl.v281, bodyRun.sl.v285, bodyRun.sl.v288, bodyRun.sl.v292, bodyRun.sl.v294, bodyRun.sl.v295, bodyRun.sl.v337, bodyRun.sl.v360, bodyRun.sl.v365, load0, load1, load2, load3, scale0, scale1, scale2, scale3, center0, center1, center2, center3, center4, center5, center6, center7]
  rfl

/-- The half plane sent for plane 1 of slot 3 from row 0. -/
theorem sent_w4 : bodyRun.sl.dma0_5 c fs fc fx bx bw = (sentOf c fs fc fx).w4 := by
  funext y
  obtain ⟨i, j, rfl⟩ : ∃ (i : Fin 256) (j : Fin 512), y = ix2 i j := ⟨y 0, y 1, eq_ix2 y⟩
  have hi := i.isLt
  refine (read_cut wcB _ _ _ _ _ (ix4 3 1 ⟨0 + i, by omega⟩ j) (ix4 0 0 i j : S1x1x256x512.Idx) (by pointwise) (by intro a; fin_cases a <;> simp)).trans ?_
  unfold bodyRun.sl.Bw_8
  refine (View.read_writes_cons_unit_of_mem wcB.view _ _ _ _ _ (ix4 0 0 i j : S1x1x256x512.Idx) rfl (by intro a; fin_cases a <;> simp)).trans ?_
  simp only [bodyRun.sl.v47, bodyRun.sl.v50, bodyRun.sl.v82, bodyRun.sl.v96, bodyRun.sl.v132, bodyRun.sl.v160, bodyRun.sl.v164, bodyRun.sl.v203, bodyRun.sl.v207, bodyRun.sl.v210, bodyRun.sl.v223, bodyRun.sl.v227, bodyRun.sl.v230, bodyRun.sl.v281, bodyRun.sl.v285, bodyRun.sl.v288, bodyRun.sl.v292, bodyRun.sl.v294, bodyRun.sl.v295, bodyRun.sl.v337, bodyRun.sl.v360, bodyRun.sl.v365, load0, load1, load2, load3, scale0, scale1, scale2, scale3, center0, center1, center2, center3, center4, center5, center6, center7]
  rfl

/-- The half plane sent for plane 0 of slot 3 from row 256. -/
theorem sent_w5 : bodyRun.sl.dma6 c fs fc fx bx bw = (sentOf c fs fc fx).w5 := by
  funext y
  obtain ⟨i, j, rfl⟩ : ∃ (i : Fin 256) (j : Fin 512), y = ix2 i j := ⟨y 0, y 1, eq_ix2 y⟩
  have hi := i.isLt
  refine (read_cut wcB _ _ _ _ _ (ix4 3 0 ⟨256 + i, by omega⟩ j) (ix4 0 0 i j : S1x1x256x512.Idx) (by pointwise) (by intro a; fin_cases a <;> simp)).trans ?_
  unfold bodyRun.sl.Bw_10
  refine (View.read_writes_cons_unit_of_not_mem wcB.view _ _ _ _ _ rfl (1 : Fin 4) (Or.inl (show (0 : ℕ) < 1 by omega))).trans ?_
  refine (View.read_writes_cons_unit_of_mem wcB.view _ _ _ _ _ (ix4 0 0 i j : S1x1x256x512.Idx) rfl (by intro a; fin_cases a <;> simp)).trans ?_
  simp only [bodyRun.sl.v47, bodyRun.sl.v50, bodyRun.sl.v82, bodyRun.sl.v96, bodyRun.sl.v132, bodyRun.sl.v160, bodyRun.sl.v164, bodyRun.sl.v203, bodyRun.sl.v207, bodyRun.sl.v210, bodyRun.sl.v223, bodyRun.sl.v227, bodyRun.sl.v230, bodyRun.sl.v281, bodyRun.sl.v285, bodyRun.sl.v288, bodyRun.sl.v292, bodyRun.sl.v294, bodyRun.sl.v295, bodyRun.sl.v337, bodyRun.sl.v360, bodyRun.sl.v365, load0, load1, load2, load3, scale0, scale1, scale2, scale3, center0, center1, center2, center3, center4, center5, center6, center7]
  rfl

/-- The half plane sent for plane 1 of slot 3 from row 256. -/
theorem sent_w6 : bodyRun.sl.dma0_6 c fs fc fx bx bw = (sentOf c fs fc fx).w6 := by
  funext y
  obtain ⟨i, j, rfl⟩ : ∃ (i : Fin 256) (j : Fin 512), y = ix2 i j := ⟨y 0, y 1, eq_ix2 y⟩
  have hi := i.isLt
  refine (read_cut wcB _ _ _ _ _ (ix4 3 1 ⟨256 + i, by omega⟩ j) (ix4 0 0 i j : S1x1x256x512.Idx) (by pointwise) (by intro a; fin_cases a <;> simp)).trans ?_
  unfold bodyRun.sl.Bw_10
  refine (View.read_writes_cons_unit_of_mem wcB.view _ _ _ _ _ (ix4 0 0 i j : S1x1x256x512.Idx) rfl (by intro a; fin_cases a <;> simp)).trans ?_
  simp only [bodyRun.sl.v47, bodyRun.sl.v50, bodyRun.sl.v82, bodyRun.sl.v96, bodyRun.sl.v132, bodyRun.sl.v160, bodyRun.sl.v164, bodyRun.sl.v203, bodyRun.sl.v207, bodyRun.sl.v210, bodyRun.sl.v223, bodyRun.sl.v227, bodyRun.sl.v230, bodyRun.sl.v281, bodyRun.sl.v285, bodyRun.sl.v288, bodyRun.sl.v292, bodyRun.sl.v294, bodyRun.sl.v295, bodyRun.sl.v337, bodyRun.sl.v360, bodyRun.sl.v365, load0, load1, load2, load3, scale0, scale1, scale2, scale3, center0, center1, center2, center3, center4, center5, center6, center7]
  rfl

/-- The mask sent for slot 0. -/
theorem sent_m0 : bodyRun.sl.dma10_1 c fx bx bm = (sentOf c fs fc fx).m0 := by
  funext y
  obtain ⟨i, j, rfl⟩ : ∃ (i j : Fin 512), y = ix2 i j := ⟨y 0, y 1, eq_ix2 y⟩
  refine (read_cut mB _ _ _ _ _ (ix3 0 i j) (ix3 0 i j : S1x512x512.Idx) (by pointwise) (by intro a; fin_cases a <;> simp)).trans ?_
  unfold bodyRun.sl.Bm_1
  refine (View.read_writes_cons_unit_of_mem mB.view _ _ _ _ _ (ix3 0 i j : S1x512x512.Idx) rfl (by intro a; fin_cases a <;> simp)).trans ?_
  simp only [bodyRun.sl.v47, bodyRun.sl.v50, bodyRun.sl.v82, bodyRun.sl.v96, bodyRun.sl.v132, bodyRun.sl.v160, bodyRun.sl.v164, bodyRun.sl.v203, bodyRun.sl.v207, bodyRun.sl.v210, bodyRun.sl.v223, bodyRun.sl.v227, bodyRun.sl.v230, bodyRun.sl.v281, bodyRun.sl.v285, bodyRun.sl.v288, bodyRun.sl.v292, bodyRun.sl.v294, bodyRun.sl.v295, bodyRun.sl.v337, bodyRun.sl.v360, bodyRun.sl.v365, load0, load1, load2, load3, scale0, scale1, scale2, scale3, center0, center1, center2, center3, center4, center5, center6, center7]
  rfl

/-- The mask sent for slot 1. -/
theorem sent_m1 : bodyRun.sl.dma20_1 c fx bx bm = (sentOf c fs fc fx).m1 := by
  funext y
  obtain ⟨i, j, rfl⟩ : ∃ (i j : Fin 512), y = ix2 i j := ⟨y 0, y 1, eq_ix2 y⟩
  refine (read_cut mB _ _ _ _ _ (ix3 1 i j) (ix3 0 i j : S1x512x512.Idx) (by pointwise) (by intro a; fin_cases a <;> simp)).trans ?_
  unfold bodyRun.sl.Bm_2
  refine (View.read_writes_cons_unit_of_mem mB.view _ _ _ _ _ (ix3 0 i j : S1x512x512.Idx) rfl (by intro a; fin_cases a <;> simp)).trans ?_
  simp only [bodyRun.sl.v47, bodyRun.sl.v50, bodyRun.sl.v82, bodyRun.sl.v96, bodyRun.sl.v132, bodyRun.sl.v160, bodyRun.sl.v164, bodyRun.sl.v203, bodyRun.sl.v207, bodyRun.sl.v210, bodyRun.sl.v223, bodyRun.sl.v227, bodyRun.sl.v230, bodyRun.sl.v281, bodyRun.sl.v285, bodyRun.sl.v288, bodyRun.sl.v292, bodyRun.sl.v294, bodyRun.sl.v295, bodyRun.sl.v337, bodyRun.sl.v360, bodyRun.sl.v365, load0, load1, load2, load3, scale0, scale1, scale2, scale3, center0, center1, center2, center3, center4, center5, center6, center7]
  rfl

/-- The mask sent for slot 2. -/
theorem sent_m2 : bodyRun.sl.dma30_1 c fx bx bm = (sentOf c fs fc fx).m2 := by
  funext y
  obtain ⟨i, j, rfl⟩ : ∃ (i j : Fin 512), y = ix2 i j := ⟨y 0, y 1, eq_ix2 y⟩
  refine (read_cut mB _ _ _ _ _ (ix3 2 i j) (ix3 0 i j : S1x512x512.Idx) (by pointwise) (by intro a; fin_cases a <;> simp)).trans ?_
  unfold bodyRun.sl.Bm_3
  refine (View.read_writes_cons_unit_of_mem mB.view _ _ _ _ _ (ix3 0 i j : S1x512x512.Idx) rfl (by intro a; fin_cases a <;> simp)).trans ?_
  simp only [bodyRun.sl.v47, bodyRun.sl.v50, bodyRun.sl.v82, bodyRun.sl.v96, bodyRun.sl.v132, bodyRun.sl.v160, bodyRun.sl.v164, bodyRun.sl.v203, bodyRun.sl.v207, bodyRun.sl.v210, bodyRun.sl.v223, bodyRun.sl.v227, bodyRun.sl.v230, bodyRun.sl.v281, bodyRun.sl.v285, bodyRun.sl.v288, bodyRun.sl.v292, bodyRun.sl.v294, bodyRun.sl.v295, bodyRun.sl.v337, bodyRun.sl.v360, bodyRun.sl.v365, load0, load1, load2, load3, scale0, scale1, scale2, scale3, center0, center1, center2, center3, center4, center5, center6, center7]
  rfl

/-- The half mask sent for slot 3 from row 0. -/
theorem sent_m3 : bodyRun.sl.dma1 c fx bx bm = (sentOf c fs fc fx).m3 := by
  funext y
  obtain ⟨i, j, rfl⟩ : ∃ (i : Fin 256) (j : Fin 512), y = ix2 i j := ⟨y 0, y 1, eq_ix2 y⟩
  have hi := i.isLt
  refine (read_cut mB _ _ _ _ _ (ix3 3 ⟨0 + i, by omega⟩ j) (ix3 0 i j : S1x256x512.Idx) (by pointwise) (by intro a; fin_cases a <;> simp)).trans ?_
  refine (View.read_writes_cons_unit_of_mem mB.view _ _ _ _ _ (ix3 0 i j : S1x256x512.Idx) rfl (by intro a; fin_cases a <;> simp)).trans ?_
  simp only [bodyRun.sl.v47, bodyRun.sl.v50, bodyRun.sl.v82, bodyRun.sl.v96, bodyRun.sl.v132, bodyRun.sl.v160, bodyRun.sl.v164, bodyRun.sl.v203, bodyRun.sl.v207, bodyRun.sl.v210, bodyRun.sl.v223, bodyRun.sl.v227, bodyRun.sl.v230, bodyRun.sl.v281, bodyRun.sl.v285, bodyRun.sl.v288, bodyRun.sl.v292, bodyRun.sl.v294, bodyRun.sl.v295, bodyRun.sl.v337, bodyRun.sl.v360, bodyRun.sl.v365, load0, load1, load2, load3, scale0, scale1, scale2, scale3, center0, center1, center2, center3, center4, center5, center6, center7]
  rfl

/-- The half mask sent for slot 3 from row 256. -/
theorem sent_m4 : bodyRun.sl.dma1_1 c fx bx bm = (sentOf c fs fc fx).m4 := by
  funext y
  obtain ⟨i, j, rfl⟩ : ∃ (i : Fin 256) (j : Fin 512), y = ix2 i j := ⟨y 0, y 1, eq_ix2 y⟩
  have hi := i.isLt
  refine (read_cut mB _ _ _ _ _ (ix3 3 ⟨256 + i, by omega⟩ j) (ix3 0 i j : S1x256x512.Idx) (by pointwise) (by intro a; fin_cases a <;> simp)).trans ?_
  refine (View.read_writes_cons_unit_of_mem mB.view _ _ _ _ _ (ix3 0 i j : S1x256x512.Idx) rfl (by intro a; fin_cases a <;> simp)).trans ?_
  simp only [bodyRun.sl.v47, bodyRun.sl.v50, bodyRun.sl.v82, bodyRun.sl.v96, bodyRun.sl.v132, bodyRun.sl.v160, bodyRun.sl.v164, bodyRun.sl.v203, bodyRun.sl.v207, bodyRun.sl.v210, bodyRun.sl.v223, bodyRun.sl.v227, bodyRun.sl.v230, bodyRun.sl.v281, bodyRun.sl.v285, bodyRun.sl.v288, bodyRun.sl.v292, bodyRun.sl.v294, bodyRun.sl.v295, bodyRun.sl.v337, bodyRun.sl.v360, bodyRun.sl.v365, load0, load1, load2, load3, scale0, scale1, scale2, scale3, center0, center1, center2, center3, center4, center5, center6, center7]
  rfl

/-- What the run sent is `sentOf`, whatever the buffers held before. -/
theorem sent_eq (gw : BufAt (F := F) c wcH) (gm : BufAt (F := F) c mH) : (bodyRun c fs fc fx gw gm bx bw bm).1 = sentOf c fs fc fx := by
  have e : (bodyRun c fs fc fx gw gm bx bw bm).1 = ⟨bodyRun.sl.dma10 c fs fc fx bx bw, bodyRun.sl.dma20 c fs fc fx bx bw,
      bodyRun.sl.dma30 c fs fc fx bx bw, bodyRun.sl.dma51 c fs fc fx bx bw, bodyRun.sl.dma0_5 c fs fc fx bx bw,
      bodyRun.sl.dma6 c fs fc fx bx bw, bodyRun.sl.dma0_6 c fs fc fx bx bw, bodyRun.sl.dma10_1 c fx bx bm,
      bodyRun.sl.dma20_1 c fx bx bm, bodyRun.sl.dma30_1 c fx bx bm, bodyRun.sl.dma1 c fx bx bm, bodyRun.sl.dma1_1 c fx bx bm⟩ := rfl
  rw [e, sent_w0, sent_w1, sent_w2, sent_w3, sent_w4, sent_w5, sent_w6, sent_m0 c fs fc, sent_m1 c fs fc, sent_m2 c fs fc,
    sent_m3 c fs fc, sent_m4 c fs fc]

end

end Cert.KernelIdeal.Hand

end
-- ==== Proof.Run.lean ====
module

public import proofs.«01_k».proof.Proof.Sent
public import proofs.«01_k».proof.Proof.Gen.KernelIdeal.Frame
public import Idealize.ShloMosaic.Lib.Pipeline.FrameSuffixV

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The body's twelve transfer counters. -/
abbrev osem0 : Fin 12 → SemLoc sig := fun j => (![SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13] : Fin 12 → SemLoc sig) j
theorem ownSemFacts0 : Pipeline.OwnSemFacts spec0 osem0 := by decide
/-- Every counter of the body at zero, one by one. -/
theorem ownSems0_list (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) := by
  rw [Pipeline.ownSems0_eq_of_list c osem0 [0, 1, 2, 3, 4, 5, 6, 7, 8, 9, 10, 11] (by decide) (by decide)]; rfl

/-- The input left in HBM. -/
def H0 : Finset (Ref sig .tc) := {main_arg0}
theorem H0_sub : H0 ⊆ Pipeline.restRefs sig spec0 := by decide
/-- The two results left in HBM. -/
def R0 : Finset (Ref sig .tc) := {main_v1_0, main_v1_1}
theorem R0_sub : R0 ⊆ Pipeline.restRefs sig spec0 \ H0 := by decide

/-- The scale words the body reads. -/
def scaleIn (c : Dev nD) : BufAt (F := F) c sc := V m c main_arg1
/-- The center words the body reads. -/
def centerIn (c : Dev nD) : BufAt (F := F) c ce := V m c main_v0
/-- What the body sends. -/
def sentIn (c : Dev nD) : Sent F := sentOf c (scaleIn m c) (centerIn m c) (V m c main_arg0)

/-- What every buffer holds when the body ends, the two results at what was sent. -/
def G (c : Dev nD) (b : Ref sig .tc) : Buf (Elt F) ((c.tc : Thread nD τ).loc b) :=
  Function.update (Function.update (V m c) main_v1_0 (wcOut c (V m c main_v1_0) (sentIn m c)))
    main_v1_1 (mOut c (V m c main_v1_1) (sentIn m c)) b
theorem G_world (c : Dev nD) : G m c main_v1_0 = wcOut c (V m c main_v1_0) (sentIn m c) := by
  unfold G; rw [Function.update_of_ne (by decide), Function.update_self]
theorem G_mask (c : Dev nD) : G m c main_v1_1 = mOut c (V m c main_v1_1) (sentIn m c) := by
  unfold G; rw [Function.update_self]

/-- The invariant around the body, buffer by buffer. -/
theorem inv_list (X : (c : Dev nD) → (b : Ref sig .tc) → Buf (Elt F) ((c.tc : Thread nD τ).loc b)) (c : Dev nD) :
    (Pipeline.ΦDRV osem0 spec0 H0 R0 (V m) X c : sProp 𝕄)
      = iprop(((∃ f, pt c xB f) ∗ (∃ f, pt c wcB f) ∗ (∃ f, pt c mB f))
          ∗ (semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0)
          ∗ pt c xH (V m c main_arg0)
          ∗ pt c wcH (X c main_v1_0) ∗ pt c mH (X c main_v1_1)) := by
  unfold Pipeline.ΦDRV
  rw [scopedRest0_eq, ownSems0_list, BI.bigSep_eq_bigSepL_of_eq (S := H0) [main_arg0] (by decide) (by decide),
    BI.bigSep_eq_bigSepL_of_eq (S := R0) [main_v1_0, main_v1_1] (by decide) (by decide)]
  rfl

/-- The proof data of the one region: the arrays as it finds them, the staged inputs unchanged, the two results at what
    the body sent once its one point is done. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := if t.val = 0 then Pipeline.ΦDRV osem0 spec0 H0 R0 (V m) (V m) c else Pipeline.ΦDRV osem0 spec0 H0 R0 (V m) (G m) c
  q _ := fullShare
  owed _ := 0

theorem A_eq (c : Dev nD) (w : Fin cfg0.W) : (dats m 0 c).A w = V m c (Pipeline.arrRef spec0 w) := by
  dsimp only [dats]

theorem after_eq0 (c : Dev nD) (t : Fin cfg0.N) : (dats m 0 c).after 0 t = iblk m c 0 t := by dsimp only [dats]
theorem after_eq1 (c : Dev nD) (t : Fin cfg0.N) : (dats m 0 c).after 1 t = iblk m c 1 t := by dsimp only [dats]
/-- The invariant before the body. -/
theorem inv_first (c : Dev nD) : (dats m 0 c).Φ 0 = Pipeline.ΦDRV osem0 spec0 H0 R0 (V m) (V m) c := by
  dsimp only [dats]; exact if_pos rfl
/-- The invariant after the body. -/
theorem inv_last (c : Dev nD) : (dats m 0 c).Φ (Fin.last cfg0.N) = Pipeline.ΦDRV osem0 spec0 H0 R0 (V m) (G m) c := by
  dsimp only [dats]; exact if_neg (by decide)

theorem before_eq0 (c : Dev nD) (t : Fin cfg0.N) (d) : (dats m 0 c).before 0 t d = iblk m c 0 t :=
  ((dats m 0 c).before_in_eq_fetched 0 rfl (fun _ => rfl) (fun _ _ _ => rfl)
      (fun t => by rw [after_eq0]; unfold Dat.blockOf iblk; rw [A_eq]; try rfl) t d).trans
    (by unfold Dat.fetched Dat.blockOf iblk; rw [A_eq]; try rfl)
theorem before_eq1 (c : Dev nD) (t : Fin cfg0.N) (d) : (dats m 0 c).before 1 t d = iblk m c 1 t :=
  ((dats m 0 c).before_in_eq_fetched 1 rfl (fun _ => rfl) (fun _ _ _ => rfl)
      (fun t => by rw [after_eq1]; unfold Dat.blockOf iblk; rw [A_eq]; try rfl) t d).trans
    (by unfold Dat.fetched Dat.blockOf iblk; rw [A_eq]; try rfl)

/-- The one block of the scale is the scale. -/
theorem block_scale (c : Dev nD) (t : Fin cfg0.N) : iblk m c 0 t = scaleIn m c := by
  unfold iblk scaleIn
  funext j
  show V m c main_arg1 (((cfg0.win 0).blk t).view.emb j) = V m c main_arg1 j
  refine congrArg (V m c main_arg1) (funext fun a => Fin.ext ?_)
  obtain rfl := fin_N0 t
  fin_cases a
  exact (Nat.zero_add _).trans (Nat.one_mul _)
/-- The one block of the centers is the centers. -/
theorem block_center (c : Dev nD) (t : Fin cfg0.N) : iblk m c 1 t = centerIn m c := by
  unfold iblk centerIn
  funext j
  show V m c main_v0 (((cfg0.win 1).blk t).view.emb j) = V m c main_v0 j
  refine congrArg (V m c main_v0) (funext fun a => Fin.ext ?_)
  obtain rfl := fin_N0 t
  fin_cases a
  exact (Nat.zero_add _).trans (Nat.one_mul _)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem owns_sc (c : Dev nD) (f : BufAt (F := F) c sc) : (owns (c : Thread nD τ) sc fullShare f : sProp 𝕄) = pt c sc f := owns_whole ..
theorem owns_ce (c : Dev nD) (f : BufAt (F := F) c ce) : (owns (c : Thread nD τ) ce fullShare f : sProp 𝕄) = pt c ce f := owns_whole ..

theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost
  rw [show (dats m 0 c).Φ (Fin.castSucc t0_0) = Pipeline.ΦDRV osem0 spec0 H0 R0 (V m) (V m) c from inv_first m c,
    show (dats m 0 c).Φ (Fin.succ t0_0) = Pipeline.ΦDRV osem0 spec0 H0 R0 (V m) (G m) c from inv_last m c,
    inv_list, inv_list, G_world, G_mask]
  unfold Dat.owesAt Pipeline.owesWithin
  rw [show (dats m 0 c).owed (Fin.castSucc t0_0) = 0 from rfl, show (dats m 0 c).owed (Fin.succ t0_0) = 0 from rfl]
  simp only [before_eq0, before_eq1, after_eq0, after_eq1, block_scale, block_center]
  rw [show (owns (c : Thread nD τ) (st0_0 t0_0) fullShare (scaleIn m c) : sProp 𝕄) = pt c sc (scaleIn m c) from owns_sc c _,
    show (owns (c : Thread nD τ) (st0_1 t0_0) fullShare (centerIn m c) : sProp 𝕄) = pt c ce (centerIn m c) from owns_ce c _]
  iintro ⟨⟨⟨⟨%bx, Bx⟩, ⟨%bw, Bw⟩, ⟨%bm, Bm⟩⟩, ⟨S2, S3, S4, S5, S6, S7, S8, S9, S10, S11, S12, S13⟩, Hx, Hw, Hm⟩, ⟨%W, -, HW⟩, ⟨%d0, Hs⟩, ⟨%d1, Hc⟩⟩
  iapply ((bodyRun c (scaleIn m c) (centerIn m c) (V m c main_arg0) (V m c main_v1_0) (V m c main_v1_1) bx bw bm).2 W _)
  isplitl [Hs]; · iexact Hs
  isplitl [Hc]; · iexact Hc
  isplitl [Hx]; · iexact Hx
  isplitl [Hw]; · iexact Hw
  isplitl [Hm]; · iexact Hm
  isplitl [Bx]; · iexact Bx
  isplitl [Bw]; · iexact Bw
  isplitl [Bm]; · iexact Bm
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [HW]; · iexact HW
  rw [sent_eq, show sentOf c (scaleIn m c) (centerIn m c) (V m c main_arg0) = sentIn m c from rfl]
  iintro ⟨Hs, Hc, Hx, Hw, Hm, Bx, Bw, Bm, S2, S3, S4, S5, S6, S7, S8, S9, S10, S11, S12, S13, ⟨%W', HW'⟩⟩
  ihave Hw := wc_join c (V m c main_v1_0) (sentIn m c) $$ Hw
  ihave Hm := m_join c (V m c main_v1_1) (sentIn m c) $$ Hm
  isplitl [Bx Bw Bm S2 S3 S4 S5 S6 S7 S8 S9 S10 S11 S12 S13 Hx Hw Hm]
  · isplitl [Bx Bw Bm]
    · isplitl [Bx]; · iexact Bx
      isplitl [Bw]; · iexact Bw
      iexact Bm
    isplitl [S2 S3 S4 S5 S6 S7 S8 S9 S10 S11 S12 S13]
    · isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      iexact S13
    isplitl [Hx]; · iexact Hx
    isplitl [Hw]; · iexact Hw
    iexact Hm
  isplitl [HW']
  · iexists W'; isplitr; · ipureintro; exact fun _ _ => Or.inl trivial
    iexact HW'
  isplitl [Hs]; · iexact Hs
  iexact Hc

theorem defs₀_row (t : Fin cfg0.N) :
    defs₀ (F := F) .tc cfg0.body (cfg0.bodyArgs t (cfg0.slots t)) = bodyAt0 t := by
  unfold defs₀; rw [Defs.onTc_tc]

/-- The body meets what the region asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option maxHeartbeats 800000 in
/-- The program around its region. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What every buffer holds when the program's last lines have run. -/
def atEnd (c : Dev nD) : Valuation τ sig (Elt F) :=
  StableHlo.after (List.flatten [hostOps1])
    (Pipeline.withArrays spec0 c (Pipeline.withR (V0 m c) R0 c (G m c)) fun w => (dats m 0 c).arrAt w cfg0.N)

set_option backward.isDefEq.respectTransparency.types false in
/-- The program ends with every buffer of the launch at `atEnd` and every counter at zero. -/
theorem run_main : θ_run defs (onTc (τ := τ) (main (F := F))) (s₀ m ρ) (fun r => (∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = atEnd m c (Proc.devRef .tc b))
      ∧ r.2.sem = fun _ => 0) :=
  Pipeline.θ_run_frame_dmaR_aroundV (Q' := _) (hQ' := fun _ h => ⟨fun c => ⟨(h.1 c).1, (h.1 c).2⟩, h.2⟩) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := G m) (hmain := hmainD m Variants.none) (hA := A_eq m)
    (hin := fun c => .of_eq (inv_first m c).symm) (hout := fun c => .of_eq (inv_last m c))

/-- No line writes the input: it ends as launched. -/
theorem atEnd_arg0 (c : Dev nD) : atEnd m c (Proc.devRef .tc main_arg0) = m ((c : Thread nD τ).loc main_arg0) := by
  unfold atEnd
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, Finset.mem_singleton]
      repeat' apply And.intro
      all_goals exact StableHlo.devRef_ne_of_ne (by decide))),
    Pipeline.withArrays_of_ne _ c _ _ main_arg0 (by exact (by decide : ∀ w, Pipeline.arrRef spec0 w ≠ main_arg0)),
    Pipeline.withR_of_not_mem _ _ _ _ main_arg0 (by decide)]
  exact V_main_arg0 m c
/-- No line writes the centers: they end as launched. -/
theorem atEnd_arg2 (c : Dev nD) : atEnd m c (Proc.devRef .tc main_arg2) = m ((c : Thread nD τ).loc main_arg2) := by
  unfold atEnd
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, Finset.mem_singleton]
      repeat' apply And.intro
      all_goals exact StableHlo.devRef_ne_of_ne (by decide))),
    Pipeline.withArrays_of_ne _ c _ _ main_arg2 (by exact (by decide : ∀ w, Pipeline.arrRef spec0 w ≠ main_arg2)),
    Pipeline.withR_of_not_mem _ _ _ _ main_arg2 (by decide)]
  exact V_main_arg2 m c
/-- The world result ends at what was sent. -/
theorem atEnd_world (c : Dev nD) : atEnd m c (Proc.devRef .tc main_v1_0) = wcOut c (V m c main_v1_0) (sentIn m c) := by
  unfold atEnd
  rw [StableHlo.after_of_forall_not_mem (b := Proc.devRef .tc main_v1_0) _ _ (List.forall_iff_forall_mem.mp (by
      simp only [hostOps1, List.flatten_cons, List.flatten_nil, List.append_nil, List.cons_append,
        List.nil_append, List.Forall, StableHlo.nullary_writes, StableHlo.unary_writes, StableHlo.binary_writes, Finset.mem_singleton]
      repeat' apply And.intro
      all_goals exact StableHlo.devRef_ne_of_ne (by decide))),
    Pipeline.withArrays_of_ne _ c _ _ main_v1_0 (by exact (by decide : ∀ w, Pipeline.arrRef spec0 w ≠ main_v1_0)),
    Pipeline.withR_of_mem _ _ _ _ main_v1_0 (by decide)]
  exact G_world m c

/-- The mask words, once every piece has arrived. -/
abbrev maskWords (c : Dev nD) : IVec S4x512x512 8 := mOut c (V m c main_v1_1) (sentIn m c)

/-- The mask result ends at the comparison of the sent mask words with zero. -/
theorem atEnd_mask (c : Dev nD) : atEnd m c (Proc.devRef .tc main_v5)
    = cmpi .ne (maskWords m c) (broadcastInDim S4x512x512 ![] bcast_S_S4x512x512 (constantI S_ 8 0#8)) := by
  have e : Pipeline.withArrays spec0 c (Pipeline.withR (V0 m c) R0 c (G m c)) (fun w => (dats m 0 c).arrAt w cfg0.N) (Proc.devRef .tc main_v1_1)
      = maskWords m c := by
    rw [Pipeline.withArrays_of_ne _ c _ _ main_v1_1 (by exact (by decide : ∀ w, Pipeline.arrRef spec0 w ≠ main_v1_1)),
      Pipeline.withR_of_mem _ _ _ _ main_v1_1 (by decide)]
    exact G_mask m c
  unfold atEnd
  simp only [hostOps1, List.flatten_cons, List.flatten_nil, List.append_nil]
  after_results
  rw [e]; rfl

/-- THE FRAME: the program ends, its three arguments as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨((h.1 c).2 main_arg0 (Pipeline.mem_restRefs_of main_arg0 (by decide) (by decide))).trans (atEnd_arg0 m c),
        ((h.1 c).1 0).trans (((dats m 0 c).arrAt_in 0 rfl _).trans ((A_eq m c 0).trans (V_main_arg1 m c))),
        ((h.1 c).2 main_arg2 (Pipeline.mem_restRefs_of main_arg2 (by decide) (by decide))).trans (atEnd_arg2 m c)⟩, h.2⟩) (run_main m ρ)

end Cert.KernelIdeal.Hand

end
-- ==== Proof.Frames.lean ====
module

public import proofs.«01_k».proof.Defs
public import proofs.«01_k».proof.Proof.Run
public import proofs.«01_k».proof.Proof.Gen.Kernel
public import proofs.«01_k».proof.Proof.Gen.ReferenceIdeal.Run
public import Idealize.ShloMosaic.PureOps.BitExact

/-! The three frames: each program ends, its arguments are as they were at launch, and every counter is at zero.
The kernel over bits and the kernel over the extended reals are one text, so one run serves both. -/

@[expose] public section

set_option maxRecDepth 16384

noncomputable section

namespace Cert.Proof

open Idealize.ShloMosaic Idealize.SL.Sem

set_option maxHeartbeats 1000000 in
/-- The statement about the kernel over bits is the statement about the idealized kernel's text, read over bits. -/
theorem kernel_text : Cert.quiescent_Kernel = (∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)) := by sl_kernel_rfl

/-- The kernel over bits ends with its arguments unchanged and its counters at zero. -/
theorem frame_kernel : Cert.quiescent_Kernel := by
  rw [kernel_text]; exact fun m g _ => Cert.KernelIdeal.Hand.frame m g

/-- The idealized kernel ends with its arguments unchanged and its counters at zero. -/
theorem frame_ideal : Cert.quiescent_KernelIdeal := fun m g _ => Cert.KernelIdeal.Hand.frame m g

/-- The reference ends with its arguments unchanged; it declares no counter. -/
theorem frame_reference : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run m g)

end Cert.Proof

end
-- ==== Proof.Peak.lean ====
module

public import Idealize.ShloMosaic.Lib.Pointwise

/-! What a peak is: a pixel above a threshold that no pixel at most two rows and two columns away exceeds;
and how a maximum over such a box is built from two one-dimensional passes, each of maxima of adjacent pairs. -/

@[expose] public section

noncomputable section

namespace Cert.KernelIdeal.Hand

open Idealize.ShloMosaic

/-- Two positions of a row or of a column, at most two apart. -/
def near (i k : Fin 512) : Prop := k.val ≤ i.val + 2 ∧ i.val ≤ k.val + 2

/-- The threshold, as the float word that both programs hold. -/
abbrev floor : EReal := Ideal.ofBits .f32 0x3727C5AC#32

/-- Pixel (i, j) is a peak: it is above the threshold and no less than every pixel of the box around it. -/
def Peak (x : Fin 512 → Fin 512 → EReal) (i j : Fin 512) : Prop :=
  floor < x i j ∧ ∀ k l, near i k → near j l → x k l ≤ x i j

open Classical in
/-- A statement as one bit. -/
def bit (p : Prop) : BitVec 1 := if p then 1#1 else 0#1

theorem bit_true {p : Prop} (h : p) : bit p = 1#1 := by unfold bit; exact if_pos h
theorem bit_false {p : Prop} (h : ¬p) : bit p = 0#1 := by unfold bit; exact if_neg h

/-- The threshold is not negative. -/
theorem floor_nonneg : 0 ≤ floor := by
  have e : floor = (((10995116 : ℝ) * (2 : ℝ) ^ (-40 : ℤ) : ℝ) : EReal) := by
    simp [floor, Ideal.ofBits, Ideal.ieee, -EReal.coe_mul]
  rw [e]; exact EReal.coe_nonneg.2 (by positivity)

/-- Each element against the next one, zero after the last. -/
def pairOf (f : Fin 512 → EReal) (k : Fin 512) : EReal :=
  max (f k) (if h : k.val < 511 then f ⟨1 + k.val, by omega⟩ else 0)

/-- One pass: an element, the pair that ends just before it and the pair that starts just after it. -/
def passOf (f : Fin 512 → EReal) (i : Fin 512) : EReal :=
  max (f i) (max (if _h : i.val < 1 then 0 else if _h : i.val - 1 < 1 then pairOf f ⟨i.val - 1, by omega⟩ else pairOf f ⟨i.val - 1 - 1, by omega⟩)
    (if h : i.val < 511 then pairOf f ⟨1 + i.val, by omega⟩ else 0))

/-- A bound that is not negative bounds a pair when it bounds its two elements. -/
theorem pairOf_le {z : EReal} (hz : 0 ≤ z) (f : Fin 512 → EReal) (k : Fin 512) :
    pairOf f k ≤ z ↔ ∀ l : Fin 512, k.val ≤ l.val → l.val ≤ k.val + 1 → f l ≤ z := by
  unfold pairOf
  constructor
  · intro h l h1 h2
    rcases Nat.lt_or_ge k.val l.val with h3 | h3
    · have hk : k.val < 511 := by omega
      rw [dif_pos hk] at h
      have e : l = ⟨1 + k.val, by omega⟩ := Fin.ext (by show l.val = 1 + k.val; omega)
      rw [e]; exact (max_le_iff.1 h).2
    · have e : l = k := Fin.ext (by omega)
      rw [e]; exact (max_le_iff.1 h).1
  · intro h
    refine max_le (h k (le_refl _) (Nat.le_succ _)) ?_
    split
    · exact h _ (by show k.val ≤ 1 + k.val; omega) (by show 1 + k.val ≤ k.val + 1; omega)
    · exact hz

/-- A bound that is not negative bounds a pass at a position when it bounds every element at most two away. -/
theorem passOf_le {z : EReal} (hz : 0 ≤ z) (f : Fin 512 → EReal) (i : Fin 512) :
    passOf f i ≤ z ↔ ∀ k, near i k → f k ≤ z := by
  unfold passOf near
  rw [max_le_iff, max_le_iff]
  have hi := i.isLt
  constructor
  · rintro ⟨h0, h1, h2⟩ k ⟨hk1, hk2⟩
    have hk := k.isLt
    rcases Nat.lt_trichotomy k.val i.val with hlt | heq | hgt
    · rw [dif_neg (by omega)] at h1
      split at h1
      · exact (pairOf_le hz _ _).1 h1 k (by show i.val - 1 ≤ k.val; omega) (by show k.val ≤ i.val - 1 + 1; omega)
      · exact (pairOf_le hz _ _).1 h1 k (by show i.val - 1 - 1 ≤ k.val; omega) (by show k.val ≤ i.val - 1 - 1 + 1; omega)
    · rw [Fin.ext heq]; exact h0
    · rw [dif_pos (by omega)] at h2
      exact (pairOf_le hz _ _).1 h2 k (by show 1 + i.val ≤ k.val; omega) (by show k.val ≤ 1 + i.val + 1; omega)
  · intro h
    refine ⟨h i ⟨by omega, by omega⟩, ?_, ?_⟩
    · split
      · exact hz
      · split
        · refine (pairOf_le hz _ _).2 fun l h1 h2 => h l ⟨?_, ?_⟩
          · have : l.val ≤ i.val - 1 + 1 := h2
            omega
          · have : i.val - 1 ≤ l.val := h1
            omega
        · refine (pairOf_le hz _ _).2 fun l h1 h2 => h l ⟨?_, ?_⟩
          · have : l.val ≤ i.val - 1 - 1 + 1 := h2
            omega
          · have : i.val - 1 - 1 ≤ l.val := h1
            omega
    · split
      · refine (pairOf_le hz _ _).2 fun l h1 h2 => h l ⟨?_, ?_⟩
        · have : l.val ≤ 1 + i.val + 1 := h2
          omega
        · have : 1 + i.val ≤ l.val := h1
          omega
      · exact hz

/-- A pass down the columns, then a pass along the rows. -/
def boxOf (x : Fin 512 → Fin 512 → EReal) (i j : Fin 512) : EReal :=
  passOf (fun l => passOf (fun k => x k l) i) j

/-- A bound that is not negative bounds the two passes at a pixel when it bounds every pixel of the box around it. -/
theorem boxOf_le {z : EReal} (hz : 0 ≤ z) (x : Fin 512 → Fin 512 → EReal) (i j : Fin 512) :
    boxOf x i j ≤ z ↔ ∀ k l, near i k → near j l → x k l ≤ z := by
  unfold boxOf
  rw [passOf_le hz]
  constructor
  · intro h k l hk hl
    exact (passOf_le hz _ _).1 (h l hl) k hk
  · intro h l hl
    exact (passOf_le hz _ _).2 fun k hk => h k l hk hl

/-- The kernel's two comparisons — above the threshold, and no less than the two passes — say that the pixel is a peak. -/
theorem peak_of_box (x : Fin 512 → Fin 512 → EReal) (i j : Fin 512) :
    (floor < x i j ∧ boxOf x i j ≤ x i j) ↔ Peak x i j := by
  constructor
  · rintro ⟨h, h'⟩; exact ⟨h, (boxOf_le (floor_nonneg.trans h.le) x i j).1 h'⟩
  · rintro ⟨h, h'⟩; exact ⟨h, (boxOf_le (floor_nonneg.trans h.le) x i j).2 h'⟩

/-- The reference's two comparisons: with `w` the maximum over the box, the larger of `w` and zero is above the
    threshold, and equals the pixel. They too say that the pixel is a peak. -/
theorem peak_of_max (x : Fin 512 → Fin 512 → EReal) (i j : Fin 512) (w : EReal)
    (hw : ∀ z, w ≤ z ↔ ∀ k l, near i k → near j l → x k l ≤ z) :
    (floor < max w 0 ∧ max w 0 = x i j) ↔ Peak x i j := by
  have self : x i j ≤ w := (hw w).1 le_rfl i j ⟨by omega, by omega⟩ ⟨by omega, by omega⟩
  constructor
  · rintro ⟨h, e⟩
    exact ⟨e ▸ h, (hw _).1 ((le_max_left w 0).trans e.le)⟩
  · rintro ⟨h, h'⟩
    have e : w = x i j := le_antisymm ((hw _).2 h') self
    have e' : max w 0 = x i j := by rw [e]; exact max_eq_left (floor_nonneg.trans h.le)
    exact ⟨e' ▸ h, e'⟩

end Cert.KernelIdeal.Hand
-- ==== Proof.Window.lean ====
module

public import proofs.«01_k».proof.Proof.Gen.ReferenceIdeal
public import proofs.«01_k».proof.Proof.Peak

/-! The reference's maximum over a five by five window, read as a bound: it is at most a value exactly when every pixel
of the box around it is. -/

@[expose] public section

set_option maxRecDepth 16384

noncomputable section

namespace Cert.ReferenceIdeal.Hand

open Cert.ReferenceIdeal Cert.ReferenceIdeal.Gen
open Cert.KernelIdeal.Hand (near floor Peak bit bit_true bit_false)
open Idealize.ShloMosaic

/-- A running maximum is at most a value exactly when its start and all its terms are. -/
theorem foldl_max_le {α : Type} (l : List α) (f : α → EReal) (v z : EReal) :
    l.foldl (fun r n => max r (f n)) v ≤ z ↔ v ≤ z ∧ ∀ n ∈ l, f n ≤ z := by
  induction l generalizing v with
  | nil => simp
  | cons a l ih => rw [List.foldl_cons, ih, max_le_iff, List.forall_mem_cons, and_assoc]

/-- The float word of minus infinity is the least value. -/
theorem start_bot : Ideal.ofBits .f32 0xFF800000#32 = ⊥ := by
  simp [Ideal.ofBits, Ideal.ieee]

/-- The maximum over the window around a pixel of map b, padding aside, as the reference writes it. -/
abbrev windowMax (x : S4x512x512.Idx → EReal) : S4x512x512.Idx → EReal :=
  Host.reduceWindow (FloatOps.maximumf (F := Ideal) (φ := .f32)) ![1, 5, 5] ![1, 1, 1] ![0, 2, 2] ![0, 2, 2] x
    (broadcastInDim S_ ![] bcast_S_S_ (constant (F := Ideal) S_ .f32 0xFF800000#32)) reduceWindows_S4x512x512_S4x512x512_w1s1p0_0_w5s1p2_2_w5s1p2_2 h_S_

/-- The window's maximum is at most z exactly when every pixel at most two rows and two columns away is. -/
theorem windowMax_le (x : S4x512x512.Idx → EReal) (b : Fin 4) (i j : Fin 512) (z : EReal) :
    windowMax x (ix3 b i j) ≤ z ↔ ∀ k l, near i k → near j l → x (ix3 b k l) ≤ z := by
  have hv : ∀ y : S_.Idx, broadcastInDim S_ ![] bcast_S_S_ (constant (F := Ideal) S_ .f32 0xFF800000#32) y = (⊥ : EReal) := fun _ => start_bot
  have hi := i.isLt
  have hj := j.isLt
  unfold windowMax Host.reduceWindow
  refine (foldl_max_le _ _ _ z).trans ?_
  simp only [hv, bot_le, true_and]
  constructor
  · intro h k l hk hl
    have hk' := k.isLt
    have hl' := l.isLt
    unfold near at hk hl
    let w : Shape.Idx ⟨3, ![1, 5, 5]⟩ := ix3 (0 : Fin 1) (⟨k.val + 2 - i.val, by omega⟩ : Fin 5) (⟨l.val + 2 - j.val, by omega⟩ : Fin 5)
    have hn := h ((⟨3, ![1, 5, 5]⟩ : Shape).rowMajor w) (List.mem_finRange _)
    simp only [Equiv.symm_apply_apply] at hn
    rw [dif_pos (by
      intro a
      match a with
      | ⟨0, _⟩ => exact ⟨by show 0 ≤ b.val * 1 + 0; omega, by show b.val * 1 + 0 - 0 < 4; omega⟩
      | ⟨1, _⟩ => exact ⟨by show 2 ≤ i.val * 1 + (k.val + 2 - i.val); omega, by show i.val * 1 + (k.val + 2 - i.val) - 2 < 512; omega⟩
      | ⟨2, _⟩ => exact ⟨by show 2 ≤ j.val * 1 + (l.val + 2 - j.val); omega, by show j.val * 1 + (l.val + 2 - j.val) - 2 < 512; omega⟩)] at hn
    refine le_trans (le_of_eq (congrArg x (funext fun a => Fin.ext ?_))) hn
    match a with
    | ⟨0, _⟩ => show b.val = b.val * 1 + 0 - 0; omega
    | ⟨1, _⟩ => show k.val = i.val * 1 + (k.val + 2 - i.val) - 2; omega
    | ⟨2, _⟩ => show l.val = j.val * 1 + (l.val + 2 - j.val) - 2; omega
  · intro h n _
    obtain ⟨w, rfl⟩ := (⟨3, ![1, 5, 5]⟩ : Shape).rowMajor.surjective n
    simp only [Equiv.symm_apply_apply]
    split
    · next hin =>
      have h0 : (w 0).val < 1 := (w 0).isLt
      have h1 : (w 1).val < 5 := (w 1).isLt
      have h2 : (w 2).val < 5 := (w 2).isLt
      have a1 : 2 ≤ i.val * 1 + (w 1).val ∧ i.val * 1 + (w 1).val - 2 < 512 := hin 1
      have a2 : 2 ≤ j.val * 1 + (w 2).val ∧ j.val * 1 + (w 2).val - 2 < 512 := hin 2
      refine le_trans (le_of_eq (congrArg x (funext fun a => Fin.ext ?_)))
        (h ⟨i.val * 1 + (w 1).val - 2, a1.2⟩ ⟨j.val * 1 + (w 2).val - 2, a2.2⟩ ⟨?_, ?_⟩ ⟨?_, ?_⟩)
      · match a with
        | ⟨0, _⟩ => show b.val * 1 + (w 0).val - 0 = b.val; omega
        | ⟨1, _⟩ => rfl
        | ⟨2, _⟩ => rfl
      all_goals dsimp only; omega
    · exact bot_le

end Cert.ReferenceIdeal.Hand

end
-- ==== Proof.Masks.lean ====
module

public import proofs.«01_k».proof.Proof.Peak
public import proofs.«01_k».proof.Proof.Gen.KernelIdeal.Skeleton
public import proofs.«01_k».proof.Proof.Gen.KernelIdeal
public import Idealize.ShloMosaic.Lib.Pointwise

/-! The kernel's masks, read at a pixel: each is the bit of "this pixel is a peak". Maps 0, 1 and 2 are masked
whole; map 3 in two halves of 256 rows, which share the maxima of adjacent rows. -/

@[expose] public section

set_option maxRecDepth 16384

noncomputable section

namespace Cert.KernelIdeal.Hand

open Cert.KernelIdeal Cert.KernelIdeal.Gen
open Idealize.ShloMosaic

/-- A map as a function of row and column. -/
abbrev grid (v : FVec Ideal S512x512 .f32) (i j : Fin 512) : EReal := v (ix2 i j)

/-- Each row against the next. -/
def rowPair (v : FVec Ideal S512x512 .f32) : FVec Ideal S512x512 .f32 :=
  maximumf v (concatenate S512x512 0 [⟨S511x512, extractStridedSlice S511x512 ![1, 0] v slices_S512x512_o1_0_S511x512⟩, ⟨S1x512, broadcast S1x512 (Scalar.ofBits .f32 0x00000000#32)⟩] concatenates_S511x512_S1x512_S512x512_d0)

/-- The pass down the columns, of a whole map. -/
def rowPass (v : FVec Ideal S512x512 .f32) : FVec Ideal S512x512 .f32 :=
  maximumf v (maximumf (concatenate S512x512 0 [⟨S1x512, broadcast S1x512 (Scalar.ofBits .f32 0x00000000#32)⟩, ⟨S1x512, extractStridedSlice S1x512 ![0, 0] (rowPair v) slices_S512x512_o0_0_S1x512⟩, ⟨S510x512, extractStridedSlice S510x512 ![0, 0] (rowPair v) slices_S512x512_o0_0_S510x512⟩] concatenates_S1x512_S1x512_S510x512_S512x512_d0)
    (concatenate S512x512 0 [⟨S511x512, extractStridedSlice S511x512 ![1, 0] (rowPair v) slices_S512x512_o1_0_S511x512⟩, ⟨S1x512, broadcast S1x512 (Scalar.ofBits .f32 0x00000000#32)⟩] concatenates_S511x512_S1x512_S512x512_d0))

/-- Each column against the next. -/
def colPair (v : FVec Ideal S512x512 .f32) : FVec Ideal S512x512 .f32 :=
  maximumf v (concatenate S512x512 1 [⟨S512x511, extractStridedSlice S512x511 ![0, 1] v slices_S512x512_o0_1_S512x511⟩, ⟨S512x1, broadcast S512x1 (Scalar.ofBits .f32 0x00000000#32)⟩] concatenates_S512x511_S512x1_S512x512_d1)

/-- The pass along the rows, of a whole map. -/
def colPass (v : FVec Ideal S512x512 .f32) : FVec Ideal S512x512 .f32 :=
  maximumf v (maximumf (concatenate S512x512 1 [⟨S512x1, broadcast S512x1 (Scalar.ofBits .f32 0x00000000#32)⟩, ⟨S512x1, extractStridedSlice S512x1 ![0, 0] (colPair v) slices_S512x512_o0_0_S512x1⟩, ⟨S512x510, extractStridedSlice S512x510 ![0, 0] (colPair v) slices_S512x512_o0_0_S512x510⟩] concatenates_S512x1_S512x1_S512x510_S512x512_d1)
    (concatenate S512x512 1 [⟨S512x511, extractStridedSlice S512x511 ![0, 1] (colPair v) slices_S512x512_o0_1_S512x511⟩, ⟨S512x1, broadcast S512x1 (Scalar.ofBits .f32 0x00000000#32)⟩] concatenates_S512x511_S512x1_S512x512_d1))

/-- Each column against the next, of half a map. -/
def colPairHalf (v : FVec Ideal S256x512 .f32) : FVec Ideal S256x512 .f32 :=
  maximumf v (concatenate S256x512 1 [⟨S256x511, extractStridedSlice S256x511 ![0, 1] v slices_S256x512_o0_1_S256x511⟩, ⟨S256x1, broadcast S256x1 (Scalar.ofBits .f32 0x00000000#32)⟩] concatenates_S256x511_S256x1_S256x512_d1)

/-- The pass along the rows, of half a map. -/
def colPassHalf (v : FVec Ideal S256x512 .f32) : FVec Ideal S256x512 .f32 :=
  maximumf v (maximumf (concatenate S256x512 1 [⟨S256x1, broadcast S256x1 (Scalar.ofBits .f32 0x00000000#32)⟩, ⟨S256x1, extractStridedSlice S256x1 ![0, 0] (colPairHalf v) slices_S256x512_o0_0_S256x1⟩, ⟨S256x510, extractStridedSlice S256x510 ![0, 0] (colPairHalf v) slices_S256x512_o0_0_S256x510⟩] concatenates_S256x1_S256x1_S256x510_S256x512_d1)
    (concatenate S256x512 1 [⟨S256x511, extractStridedSlice S256x511 ![0, 1] (colPairHalf v) slices_S256x512_o0_1_S256x511⟩, ⟨S256x1, broadcast S256x1 (Scalar.ofBits .f32 0x00000000#32)⟩] concatenates_S256x511_S256x1_S256x512_d1))

/-- The pass down the columns, of the top half of a map. -/
def topPass (v : FVec Ideal S512x512 .f32) : FVec Ideal S256x512 .f32 :=
  maximumf (extractStridedSlice S256x512 ![0, 0] v slices_S512x512_o0_0_S256x512)
    (maximumf (concatenate S256x512 0 [⟨S1x512, broadcast S1x512 (Scalar.ofBits .f32 0x00000000#32)⟩, ⟨S1x512, extractStridedSlice S1x512 ![0, 0] (rowPair v) slices_S512x512_o0_0_S1x512⟩, ⟨S254x512, extractStridedSlice S254x512 ![0, 0] (rowPair v) slices_S512x512_o0_0_S254x512⟩] concatenates_S1x512_S1x512_S254x512_S256x512_d0)
      (extractStridedSlice S256x512 ![1, 0] (rowPair v) slices_S512x512_o1_0_S256x512))

/-- The pass down the columns, of the bottom half of a map. -/
def bottomPass (v : FVec Ideal S512x512 .f32) : FVec Ideal S256x512 .f32 :=
  maximumf (extractStridedSlice S256x512 ![256, 0] v slices_S512x512_o256_0_S256x512)
    (maximumf (extractStridedSlice S256x512 ![254, 0] (rowPair v) slices_S512x512_o254_0_S256x512)
      (concatenate S256x512 0 [⟨S255x512, extractStridedSlice S255x512 ![257, 0] (rowPair v) slices_S512x512_o257_0_S255x512⟩, ⟨S1x512, broadcast S1x512 (Scalar.ofBits .f32 0x00000000#32)⟩] concatenates_S255x512_S1x512_S256x512_d0))

/-- Pixels against the threshold and against the maxima around them. -/
def maskOf {s : Shape} (v p : FVec Ideal s .f32) : IVec s 1 :=
  andi (cmpf .ogt v (broadcast s (Scalar.ofBits .f32 0x3727C5AC#32))) (cmpf .oge v p)

theorem rowPair_at (v : FVec Ideal S512x512 .f32) (i j : Fin 512) : rowPair v (ix2 i j) = pairOf (fun k => grid v k j) i := by
  pointwise [rowPair]; rfl

/-- The pass down the columns at a pixel. -/
theorem rowPass_at (v : FVec Ideal S512x512 .f32) (i j : Fin 512) : rowPass v (ix2 i j) = passOf (fun k => grid v k j) i := by
  pointwise [rowPass, rowPair_at]; rfl

theorem colPair_at (v : FVec Ideal S512x512 .f32) (i j : Fin 512) : colPair v (ix2 i j) = pairOf (fun k => grid v i k) j := by
  pointwise [colPair]; rfl

/-- The pass along the rows at a pixel. -/
theorem colPass_at (v : FVec Ideal S512x512 .f32) (i j : Fin 512) : colPass v (ix2 i j) = passOf (fun k => grid v i k) j := by
  pointwise [colPass, colPair_at]; rfl

theorem colPairHalf_at (v : FVec Ideal S256x512 .f32) (i : Fin 256) (j : Fin 512) : colPairHalf v (ix2 i j) = pairOf (fun k => v (ix2 i k)) j := by
  pointwise [colPairHalf]; rfl

/-- The pass along the rows at a pixel of half a map. -/
theorem colPassHalf_at (v : FVec Ideal S256x512 .f32) (i : Fin 256) (j : Fin 512) : colPassHalf v (ix2 i j) = passOf (fun k => v (ix2 i k)) j := by
  pointwise [colPassHalf, colPairHalf_at]; rfl

/-- Row i of the top half. -/
abbrev topRow (i : Fin 256) : Fin 512 := ⟨i.val, by omega⟩
/-- Row i of the bottom half. -/
abbrev bottomRow (i : Fin 256) : Fin 512 := ⟨256 + i.val, by omega⟩

/-- The top half's pass is the whole map's pass there. -/
theorem topPass_at (v : FVec Ideal S512x512 .f32) (i : Fin 256) (j : Fin 512) : topPass v (ix2 i j) = passOf (fun k => grid v k j) (topRow i) := by
  pointwise [topPass, rowPair_at]
  unfold passOf
  rw [dif_pos (show (topRow i).val < 511 by show i.val < 511; omega)]

/-- The bottom half's pass is the whole map's pass there. -/
theorem bottomPass_at (v : FVec Ideal S512x512 .f32) (i : Fin 256) (j : Fin 512) : bottomPass v (ix2 i j) = passOf (fun k => grid v k j) (bottomRow i) := by
  pointwise [bottomPass, rowPair_at]
  unfold passOf
  rw [dif_neg (show ¬(bottomRow i).val < 1 by show ¬(256 + i.val < 1); omega), dif_neg (show ¬(bottomRow i).val - 1 < 1 by show ¬(256 + i.val - 1 < 1); omega)]
  have e : (⟨254 + i.val, by omega⟩ : Fin 512) = ⟨(bottomRow i).val - 1 - 1, by omega⟩ := Fin.ext (by show 254 + i.val = 256 + i.val - 1 - 1; omega)
  refine congrArg₂ max rfl (congrArg₂ max (congrArg _ e) ?_)
  by_cases h : i.val < 255
  · rw [dif_pos h, dif_pos (show (bottomRow i).val < 511 by show 256 + i.val < 511; omega)]
    exact congrArg _ (Fin.ext (by show 257 + i.val = 1 + (256 + i.val); omega))
  · rw [dif_neg h, dif_neg (show ¬(bottomRow i).val < 511 by show ¬(256 + i.val < 511); omega)]

/-- A mask at an index whose pixel is x i j and whose maximum is the two passes there. -/
theorem maskOf_at {s : Shape} (v p : FVec Ideal s .f32) (y : s.Idx) (x : Fin 512 → Fin 512 → EReal) (i j : Fin 512)
    (hv : v y = x i j) (hp : p y = boxOf x i j) : maskOf v p y = bit (Peak x i j) := by
  have e : maskOf v p y = bit (floor < x i j) &&& bit (boxOf x i j ≤ x i j) := by
    rw [← hp, ← hv]
    show Ideal.cmp .ogt (v y) floor &&& Ideal.cmp .oge (v y) (p y) = _
    have ofb : ∀ q : Prop, [Decidable q] → BitVec.ofBool (decide q) = bit q := fun q _ => by
      by_cases h : q
      · rw [bit_true h, decide_eq_true h]; rfl
      · rw [bit_false h, decide_eq_false h]; rfl
    exact congrArg₂ (· &&& ·) (ofb _) (ofb _)
  rw [e]
  by_cases hP : Peak x i j
  · obtain ⟨h1, h2⟩ := (peak_of_box x i j).2 hP
    rw [bit_true h1, bit_true h2, bit_true hP]; rfl
  · rw [bit_false hP]
    by_cases h1 : floor < x i j
    · rw [bit_false fun h2 => hP ((peak_of_box x i j).1 ⟨h1, h2⟩)]; simp
    · rw [bit_false h1]; simp

/-- Map 0's mask. -/
theorem mask0_at (v : FVec Ideal S512x512 .f32) (i j : Fin 512) : k0_pay5 v (ix2 i j) = bit (Peak (grid v) i j) :=
  (congrFun (show k0_pay5 v = maskOf v (colPass (rowPass v)) from rfl) _).trans
    (maskOf_at v _ _ (grid v) i j rfl (by rw [colPass_at]; simp only [grid, rowPass_at, boxOf]))

/-- Map 1's mask. -/
theorem mask1_at (x : Vec Ideal S1x512x512 .f32) (i j : Fin 512) : k0_pay11 x (ix2 i j) = bit (Peak (grid (k0_pay3 x)) i j) :=
  (congrFun (show k0_pay11 x = k0_pay5 (k0_pay3 x) from rfl) _).trans (mask0_at _ i j)

/-- Map 2's mask. -/
theorem mask2_at (x : Vec Ideal S1x512x512 .f32) (i j : Fin 512) :
    k0_pay24 (k0_pay17 x) (k0_pay20 x) k0_pay21 (k0_pay22 x) (k0_pay23 x) (ix2 i j) = bit (Peak (grid (k0_pay3 x)) i j) :=
  (congrFun (show k0_pay24 (k0_pay17 x) (k0_pay20 x) k0_pay21 (k0_pay22 x) (k0_pay23 x) = k0_pay5 (k0_pay3 x) from rfl) _).trans (mask0_at _ i j)

/-- The mask of map 3's top half. -/
theorem mask3_top (x : Vec Ideal S1x512x512 .f32) (i : Fin 256) (j : Fin 512) :
    k0_pay35 (k0_pay31 x) k0_pay32 (k0_pay33 x) (k0_pay34 x) (ix2 i j) = bit (Peak (grid (k0_pay3 x)) (topRow i) j) :=
  (congrFun (show k0_pay35 (k0_pay31 x) k0_pay32 (k0_pay33 x) (k0_pay34 x)
      = maskOf (extractStridedSlice S256x512 ![0, 0] (k0_pay3 x) slices_S512x512_o0_0_S256x512) (colPassHalf (topPass (k0_pay3 x))) from rfl) _).trans
    (maskOf_at _ _ _ (grid (k0_pay3 x)) (topRow i) j (by pointwise) (by rw [colPassHalf_at]; simp only [topPass_at, boxOf]))

/-- The mask of map 3's bottom half. -/
theorem mask3_bottom (x : Vec Ideal S1x512x512 .f32) (i : Fin 256) (j : Fin 512) :
    k0_pay43 (k0_pay40 (k0_pay28 x)) (k0_pay41 (k0_pay28 x) (k0_pay31 x)) k0_pay42 (ix2 i j) = bit (Peak (grid (k0_pay3 x)) (bottomRow i) j) :=
  (congrFun (show k0_pay43 (k0_pay40 (k0_pay28 x)) (k0_pay41 (k0_pay28 x) (k0_pay31 x)) k0_pay42
      = maskOf (extractStridedSlice S256x512 ![256, 0] (k0_pay3 x) slices_S512x512_o256_0_S256x512) (colPassHalf (bottomPass (k0_pay3 x))) from rfl) _).trans
    (maskOf_at _ _ _ (grid (k0_pay3 x)) (bottomRow i) j (by pointwise) (by rw [colPassHalf_at]; simp only [bottomPass_at, boxOf]))

end Cert.KernelIdeal.Hand
-- ==== Proof.Stored.lean ====
module

public import proofs.«01_k».proof.Proof.Masks
public import proofs.«01_k».proof.Proof.Sent

/-! What the kernel leaves in its two results, element by element. -/

@[expose] public section

set_option maxRecDepth 16384

noncomputable section

namespace Cert.KernelIdeal.Hand

open Cert.KernelIdeal Cert.KernelIdeal.Gen
open Idealize.ShloMosaic Idealize.ShloMosaic.TcCoe
open Idealize.SL.Sem

/-- A row's or a column's number, as a float. -/
abbrev coord (k : ℕ) : EReal := FloatOps.sitofp (F := Ideal) .f32 (BitVec.ofNat 32 k)
/-- Half a map's width, as the float word that both programs hold. -/
abbrev half : EReal := Ideal.ofBits .f32 0x43800000#32

/-- The kernel's world value: at a peak the column scaled and shifted (plane 0) or the row scaled, turned and shifted
    (plane 1); zero elsewhere. -/
def kernelWorld (x : Fin 512 → Fin 512 → EReal) (s cx cy : EReal) (p : Fin 2) (i j : Fin 512) : EReal :=
  Scalar.select (bit (Peak x i j)) (if p.val = 0 then coord j.val * s + (cx - half * s) else coord i.val * (0 - s) + (cy + half * s)) 0

/-- The kernel's mask word: one at a peak, zero elsewhere. -/
def kernelWord (x : Fin 512 → Fin 512 → EReal) (i j : Fin 512) : BitVec 8 := (bit (Peak x i j)).setWidth 8

variable (c : Dev nD) (fs : BufAt (F := Ideal) c sc) (fc : BufAt (F := Ideal) c ce) (fx : BufAt (F := Ideal) c xH)

/-- Map b as a function of row and column. -/
abbrev mapOf (b : Fin 4) (i j : Fin 512) : EReal := fx (ix4 b 0 i j)

theorem mapOf_eq (b : Fin 4) : grid (k0_pay3 (xs c fx b)) = mapOf c fx b := by
  funext i j
  pointwise [grid, k0_pay3, xs]

/-- The planes sent for slot 0. -/
theorem w0_at (p : Fin 2) (i j : Fin 512) :
    (sentOf c fs fc fx).w0 (ix3 p i j) = kernelWorld (mapOf c fx 0) (fs (ix1 0)) (fc (ix1 0)) (fc (ix1 1)) p i j := by
  dsimp only [sentOf]
  fin_cases p <;> pointwise [k0_pay6, k0_pay8, k0_pay7, k0_pay1, k0_pay2, k0_pay4, mask0_at, mapOf_eq] <;> rfl

/-- The planes sent for slot 1. -/
theorem w1_at (p : Fin 2) (i j : Fin 512) :
    (sentOf c fs fc fx).w1 (ix3 p i j) = kernelWorld (mapOf c fx 1) (fs (ix1 1)) (fc (ix1 2)) (fc (ix1 3)) p i j := by
  dsimp only [sentOf]
  fin_cases p <;> pointwise [k0_pay14, k0_pay15, k0_pay12, k0_pay13, k0_pay10, k0_pay1, k0_pay2, mask1_at, mapOf_eq] <;> rfl

/-- The planes sent for slot 2. -/
theorem w2_at (p : Fin 2) (i j : Fin 512) :
    (sentOf c fs fc fx).w2 (ix3 p i j) = kernelWorld (mapOf c fx 2) (fs (ix1 2)) (fc (ix1 4)) (fc (ix1 5)) p i j := by
  dsimp only [sentOf]
  fin_cases p <;> pointwise [k0_pay25, k0_pay26, k0_pay18, k0_pay19, k0_pay1, k0_pay2, mask2_at, mapOf_eq] <;> rfl

/-- The top half of slot 3's first plane. -/
theorem w3_at (i : Fin 256) (j : Fin 512) :
    (sentOf c fs fc fx).w3 (ix2 i j) = kernelWorld (mapOf c fx 3) (fs (ix1 3)) (fc (ix1 6)) (fc (ix1 7)) 0 (topRow i) j := by
  dsimp only [sentOf]
  pointwise [k0_pay36, k0_pay29, k0_pay1, mask3_top, mapOf_eq]; rfl

/-- The top half of slot 3's second plane. -/
theorem w4_at (i : Fin 256) (j : Fin 512) :
    (sentOf c fs fc fx).w4 (ix2 i j) = kernelWorld (mapOf c fx 3) (fs (ix1 3)) (fc (ix1 6)) (fc (ix1 7)) 1 (topRow i) j := by
  dsimp only [sentOf]
  pointwise [k0_pay37, k0_pay30, k0_pay2, mask3_top, mapOf_eq]; rfl

/-- The bottom half of slot 3's first plane. -/
theorem w5_at (i : Fin 256) (j : Fin 512) :
    (sentOf c fs fc fx).w5 (ix2 i j) = kernelWorld (mapOf c fx 3) (fs (ix1 3)) (fc (ix1 6)) (fc (ix1 7)) 0 (bottomRow i) j := by
  dsimp only [sentOf]
  pointwise [k0_pay44, k0_pay29, k0_pay1, mask3_bottom, mapOf_eq]; rfl

/-- The bottom half of slot 3's second plane. -/
theorem w6_at (i : Fin 256) (j : Fin 512) :
    (sentOf c fs fc fx).w6 (ix2 i j) = kernelWorld (mapOf c fx 3) (fs (ix1 3)) (fc (ix1 6)) (fc (ix1 7)) 1 (bottomRow i) j := by
  dsimp only [sentOf]
  pointwise [k0_pay45, k0_pay30, k0_pay2, mask3_bottom, mapOf_eq]; rfl

/-- The mask sent for slot 0. -/
theorem m0_at (i j : Fin 512) : (sentOf c fs fc fx).m0 (ix2 i j) = kernelWord (mapOf c fx 0) i j := by
  dsimp only [sentOf]
  pointwise [k0_pay9, mask0_at, mapOf_eq]; rfl
/-- The mask sent for slot 1. -/
theorem m1_at (i j : Fin 512) : (sentOf c fs fc fx).m1 (ix2 i j) = kernelWord (mapOf c fx 1) i j := by
  dsimp only [sentOf]
  pointwise [k0_pay16, mask1_at, mapOf_eq]; rfl
/-- The mask sent for slot 2. -/
theorem m2_at (i j : Fin 512) : (sentOf c fs fc fx).m2 (ix2 i j) = kernelWord (mapOf c fx 2) i j := by
  dsimp only [sentOf]
  pointwise [k0_pay27, mask2_at, mapOf_eq]; rfl
/-- The mask sent for slot 3's top half. -/
theorem m3_at (i : Fin 256) (j : Fin 512) : (sentOf c fs fc fx).m3 (ix2 i j) = kernelWord (mapOf c fx 3) (topRow i) j := by
  dsimp only [sentOf]
  pointwise [k0_pay39, k0_pay38, mask3_top, mapOf_eq]; rfl
/-- The mask sent for slot 3's bottom half. -/
theorem m4_at (i : Fin 256) (j : Fin 512) : (sentOf c fs fc fx).m4 (ix2 i j) = kernelWord (mapOf c fx 3) (bottomRow i) j := by
  dsimp only [sentOf]
  pointwise [k0_pay46, mask3_bottom, mapOf_eq]; rfl

/-- A row of a map is a row of its top half or of its bottom half. -/
theorem row_cases (i : Fin 512) : (∃ k : Fin 256, i = topRow k) ∨ ∃ k : Fin 256, i = bottomRow k := by
  have hi := i.isLt
  rcases Nat.lt_or_ge i.val 256 with h | h
  · exact Or.inl ⟨⟨i.val, h⟩, rfl⟩
  · exact Or.inr ⟨⟨i.val - 256, by omega⟩, Fin.ext (by show i.val = 256 + (i.val - 256); omega)⟩

variable (g : BufAt (F := Ideal) c wcH) (gm : BufAt (F := Ideal) c mH)

/-- The first center of map b among the eight. -/
abbrev cxOf (b : Fin 4) : Fin 8 := ⟨2 * b.val, by omega⟩
/-- The second center of map b among the eight. -/
abbrev cyOf (b : Fin 4) : Fin 8 := ⟨2 * b.val + 1, by omega⟩

/-- Dropping a leading unit axis, and two of them: the index keeps its other coordinates. -/
theorem drop_S (h : S2x512x512.numel = S1x2x512x512.numel) (p : Fin 2) (i j : Fin 512) :
    Shape.reshapeEquiv h.symm (ix4 0 p i j : S1x2x512x512.Idx) = (ix3 p i j : S2x512x512.Idx) := by pointwise
theorem drop_Q (h : S256x512.numel = S1x1x256x512.numel) (i : Fin 256) (j : Fin 512) :
    Shape.reshapeEquiv h.symm (ix4 0 0 i j : S1x1x256x512.Idx) = (ix2 i j : S256x512.Idx) := by pointwise
theorem drop_T (h : S512x512.numel = S1x512x512.numel) (i j : Fin 512) :
    Shape.reshapeEquiv h.symm (ix3 0 i j : S1x512x512.Idx) = (ix2 i j : S512x512.Idx) := by pointwise
theorem drop_R (h : S256x512.numel = S1x256x512.numel) (i : Fin 256) (j : Fin 512) :
    Shape.reshapeEquiv h.symm (ix3 0 i j : S1x256x512.Idx) = (ix2 i j : S256x512.Idx) := by pointwise

/-- An element of the planes that a copy filled. -/
theorem wS_hit (o : Fin 4 → ℕ) (h) (q : S2x512x512.Idx → EReal) (z : S4x2x512x512.Idx) (p : Fin 2) (i j : Fin 512)
    (hz : ∀ a, (z a).val = o a + ((ix4 0 p i j : S1x2x512x512.Idx) a).val) :
    wcH.view.read (Elt Ideal) ((wS o h).view.write (Elt Ideal) g q Finset.univ) z = q (ix3 p i j) :=
  read_fill_hit wcH h _ _ g q z (ix3 p i j : S2x512x512.Idx) (ix4 0 p i j : S1x2x512x512.Idx) hz (drop_S squeezes_S1x2x512x512_S2x512x512.numel_eq p i j)

/-- An element of the half plane that a copy filled. -/
theorem wQ_hit (o : Fin 4 → ℕ) (h) (q : S256x512.Idx → EReal) (z : S4x2x512x512.Idx) (i : Fin 256) (j : Fin 512)
    (hz : ∀ a, (z a).val = o a + ((ix4 0 0 i j : S1x1x256x512.Idx) a).val) :
    wcH.view.read (Elt Ideal) ((wQ o h).view.write (Elt Ideal) g q Finset.univ) z = q (ix2 i j) :=
  read_fill_hit wcH h _ _ g q z (ix2 i j : S256x512.Idx) (ix4 0 0 i j : S1x1x256x512.Idx) hz (drop_Q squeezes_S1x1x256x512_S256x512.numel_eq i j)

/-- An element of the mask that a copy filled. -/
theorem mS_hit (o : Fin 3 → ℕ) (h) (q : S512x512.Idx → BitVec 8) (z : S4x512x512.Idx) (i j : Fin 512)
    (hz : ∀ a, (z a).val = o a + ((ix3 0 i j : S1x512x512.Idx) a).val) :
    mH.view.read (Elt Ideal) ((mS o h).view.write (Elt Ideal) gm q Finset.univ) z = q (ix2 i j) :=
  read_fill_hit mH h _ _ gm q z (ix2 i j : S512x512.Idx) (ix3 0 i j : S1x512x512.Idx) hz (drop_T squeezes_S1x512x512_S512x512.numel_eq i j)

/-- An element of the half mask that a copy filled. -/
theorem mQ_hit (o : Fin 3 → ℕ) (h) (q : S256x512.Idx → BitVec 8) (z : S4x512x512.Idx) (i : Fin 256) (j : Fin 512)
    (hz : ∀ a, (z a).val = o a + ((ix3 0 i j : S1x256x512.Idx) a).val) :
    mH.view.read (Elt Ideal) ((mQ o h).view.write (Elt Ideal) gm q Finset.univ) z = q (ix2 i j) :=
  read_fill_hit mH h _ _ gm q z (ix2 i j : S256x512.Idx) (ix3 0 i j : S1x256x512.Idx) hz (drop_R squeezes_S1x256x512_S256x512.numel_eq i j)

/-- An element outside the planes that a copy filled keeps its value. -/
theorem wS_miss (o : Fin 4 → ℕ) (h) (q : S2x512x512.Idx → EReal) (z : S4x2x512x512.Idx) (a : Fin 4)
    (ha : (z a).val < o a ∨ o a + S1x2x512x512.size a ≤ (z a).val) :
    wcH.view.read (Elt Ideal) ((wS o h).view.write (Elt Ideal) g q Finset.univ) z = wcH.view.read (Elt Ideal) g z :=
  read_fill_miss wcH h _ _ g q z a ha

/-- An element outside the half plane that a copy filled keeps its value. -/
theorem wQ_miss (o : Fin 4 → ℕ) (h) (q : S256x512.Idx → EReal) (z : S4x2x512x512.Idx) (a : Fin 4)
    (ha : (z a).val < o a ∨ o a + S1x1x256x512.size a ≤ (z a).val) :
    wcH.view.read (Elt Ideal) ((wQ o h).view.write (Elt Ideal) g q Finset.univ) z = wcH.view.read (Elt Ideal) g z :=
  read_fill_miss wcH h _ _ g q z a ha

/-- An element outside the mask that a copy filled keeps its value. -/
theorem mS_miss (o : Fin 3 → ℕ) (h) (q : S512x512.Idx → BitVec 8) (z : S4x512x512.Idx) (a : Fin 3)
    (ha : (z a).val < o a ∨ o a + S1x512x512.size a ≤ (z a).val) :
    mH.view.read (Elt Ideal) ((mS o h).view.write (Elt Ideal) gm q Finset.univ) z = mH.view.read (Elt Ideal) gm z :=
  read_fill_miss mH h _ _ gm q z a ha

/-- An element outside the half mask that a copy filled keeps its value. -/
theorem mQ_miss (o : Fin 3 → ℕ) (h) (q : S256x512.Idx → BitVec 8) (z : S4x512x512.Idx) (a : Fin 3)
    (ha : (z a).val < o a ∨ o a + S1x256x512.size a ≤ (z a).val) :
    mH.view.read (Elt Ideal) ((mQ o h).view.write (Elt Ideal) gm q Finset.univ) z = mH.view.read (Elt Ideal) gm z :=
  read_fill_miss mH h _ _ gm q z a ha

/-- Reading a whole result reads its contents. -/
theorem read_world (z : S4x2x512x512.Idx) : g z = wcH.view.read (Elt Ideal) g z := rfl
theorem read_word (z : S4x512x512.Idx) : gm z = mH.view.read (Elt Ideal) gm z := rfl

/-- Slot 0 of the world result. -/
theorem world_at0 (p : Fin 2) (i j : Fin 512) : wcOut c g (sentOf c fs fc fx) (ix4 0 p i j)
    = kernelWorld (mapOf c fx 0) (fs (ix1 0)) (fc (ix1 0)) (fc (ix1 1)) p i j := by
  refine (read_world c _ _).trans ?_; unfold wcOut
  refine (wS_hit c _ ![0, 0, 0, 0] inb_S4x2x512x512_S1x2x512x512_0_0_0_0 _ (ix4 0 p i j) p i j (by intro a; fin_cases a <;> simp)).trans ?_
  exact w0_at c fs fc fx p i j

/-- Slot 1 of the world result. -/
theorem world_at1 (p : Fin 2) (i j : Fin 512) : wcOut c g (sentOf c fs fc fx) (ix4 1 p i j)
    = kernelWorld (mapOf c fx 1) (fs (ix1 1)) (fc (ix1 2)) (fc (ix1 3)) p i j := by
  refine (read_world c _ _).trans ?_; unfold wcOut
  refine (wS_miss c _ ![0, 0, 0, 0] inb_S4x2x512x512_S1x2x512x512_0_0_0_0 _ (ix4 1 p i j) 0 (Or.inr (show 0 + 1 ≤ 1 by omega))).trans ?_
  refine (wS_hit c _ ![1, 0, 0, 0] inb_S4x2x512x512_S1x2x512x512_1_0_0_0 _ (ix4 1 p i j) p i j (by intro a; fin_cases a <;> simp)).trans ?_
  exact w1_at c fs fc fx p i j

/-- Slot 2 of the world result. -/
theorem world_at2 (p : Fin 2) (i j : Fin 512) : wcOut c g (sentOf c fs fc fx) (ix4 2 p i j)
    = kernelWorld (mapOf c fx 2) (fs (ix1 2)) (fc (ix1 4)) (fc (ix1 5)) p i j := by
  refine (read_world c _ _).trans ?_; unfold wcOut
  refine (wS_miss c _ ![0, 0, 0, 0] inb_S4x2x512x512_S1x2x512x512_0_0_0_0 _ (ix4 2 p i j) 0 (Or.inr (show 0 + 1 ≤ 2 by omega))).trans ?_
  refine (wS_miss c _ ![1, 0, 0, 0] inb_S4x2x512x512_S1x2x512x512_1_0_0_0 _ (ix4 2 p i j) 0 (Or.inr (show 1 + 1 ≤ 2 by omega))).trans ?_
  refine (wS_hit c _ ![2, 0, 0, 0] inb_S4x2x512x512_S1x2x512x512_2_0_0_0 _ (ix4 2 p i j) p i j (by intro a; fin_cases a <;> simp)).trans ?_
  exact w2_at c fs fc fx p i j

/-- Slot 3 of the world result, half plane by half plane. -/
theorem world_at3 (p : Fin 2) (i j : Fin 512) : wcOut c g (sentOf c fs fc fx) (ix4 3 p i j)
    = kernelWorld (mapOf c fx 3) (fs (ix1 3)) (fc (ix1 6)) (fc (ix1 7)) p i j := by
  refine (read_world c _ _).trans ?_; unfold wcOut
  refine (wS_miss c _ ![0, 0, 0, 0] inb_S4x2x512x512_S1x2x512x512_0_0_0_0 _ (ix4 3 p i j) 0 (Or.inr (show 0 + 1 ≤ 3 by omega))).trans ?_
  refine (wS_miss c _ ![1, 0, 0, 0] inb_S4x2x512x512_S1x2x512x512_1_0_0_0 _ (ix4 3 p i j) 0 (Or.inr (show 1 + 1 ≤ 3 by omega))).trans ?_
  refine (wS_miss c _ ![2, 0, 0, 0] inb_S4x2x512x512_S1x2x512x512_2_0_0_0 _ (ix4 3 p i j) 0 (Or.inr (show 2 + 1 ≤ 3 by omega))).trans ?_
  rcases row_cases i with ⟨k, rfl⟩ | ⟨k, rfl⟩
  · obtain rfl | rfl : p = 0 ∨ p = 1 := by omega
    · refine (wQ_hit c _ ![3, 0, 0, 0] inb_S4x2x512x512_S1x1x256x512_3_0_0_0 _ (ix4 3 0 (topRow k) j) k j (by intro a; fin_cases a <;> simp)).trans ?_
      exact w3_at c fs fc fx k j
    · refine (wQ_miss c _ ![3, 0, 0, 0] inb_S4x2x512x512_S1x1x256x512_3_0_0_0 _ (ix4 3 1 (topRow k) j) 1 (Or.inr (show 0 + 1 ≤ 1 by omega))).trans ?_
      refine (wQ_hit c _ ![3, 1, 0, 0] inb_S4x2x512x512_S1x1x256x512_3_1_0_0 _ (ix4 3 1 (topRow k) j) k j (by intro a; fin_cases a <;> simp)).trans ?_
      exact w4_at c fs fc fx k j
  · refine (wQ_miss c _ ![3, 0, 0, 0] inb_S4x2x512x512_S1x1x256x512_3_0_0_0 _ (ix4 3 p (bottomRow k) j) 2 (Or.inr (show 0 + 256 ≤ 256 + k.val by omega))).trans ?_
    refine (wQ_miss c _ ![3, 1, 0, 0] inb_S4x2x512x512_S1x1x256x512_3_1_0_0 _ (ix4 3 p (bottomRow k) j) 2 (Or.inr (show 0 + 256 ≤ 256 + k.val by omega))).trans ?_
    obtain rfl | rfl : p = 0 ∨ p = 1 := by omega
    · refine (wQ_hit c _ ![3, 0, 256, 0] inb_S4x2x512x512_S1x1x256x512_3_0_256_0 _ (ix4 3 0 (bottomRow k) j) k j (by intro a; fin_cases a <;> simp)).trans ?_
      exact w5_at c fs fc fx k j
    · refine (wQ_miss c _ ![3, 0, 256, 0] inb_S4x2x512x512_S1x1x256x512_3_0_256_0 _ (ix4 3 1 (bottomRow k) j) 1 (Or.inr (show 0 + 1 ≤ 1 by omega))).trans ?_
      refine (wQ_hit c _ ![3, 1, 256, 0] inb_S4x2x512x512_S1x1x256x512_3_1_256_0 _ (ix4 3 1 (bottomRow k) j) k j (by intro a; fin_cases a <;> simp)).trans ?_
      exact w6_at c fs fc fx k j

/-- Every element of the world result. -/
theorem world_at (b : Fin 4) (p : Fin 2) (i j : Fin 512) : wcOut c g (sentOf c fs fc fx) (ix4 b p i j)
    = kernelWorld (mapOf c fx b) (fs (ix1 b)) (fc (ix1 (cxOf b))) (fc (ix1 (cyOf b))) p i j := by
  obtain rfl | rfl | rfl | rfl : b = 0 ∨ b = 1 ∨ b = 2 ∨ b = 3 := by omega
  · exact world_at0 c fs fc fx g p i j
  · exact world_at1 c fs fc fx g p i j
  · exact world_at2 c fs fc fx g p i j
  · exact world_at3 c fs fc fx g p i j

/-- Every word of the mask. -/
theorem word_at (b : Fin 4) (i j : Fin 512) : mOut c gm (sentOf c fs fc fx) (ix3 b i j) = kernelWord (mapOf c fx b) i j := by
  refine (read_word c _ _).trans ?_; unfold mOut
  obtain rfl | hb : b = 0 ∨ 1 ≤ b.val := by omega
  · refine (mS_hit c _ ![0, 0, 0] inb_S4x512x512_S1x512x512_0_0_0 _ (ix3 0 i j) i j (by intro a; fin_cases a <;> simp)).trans ?_
    exact m0_at c fs fc fx i j
  refine (mS_miss c _ ![0, 0, 0] inb_S4x512x512_S1x512x512_0_0_0 _ (ix3 b i j) 0 (Or.inr (show 0 + 1 ≤ b.val by omega))).trans ?_
  obtain rfl | hb : b = 1 ∨ 2 ≤ b.val := by omega
  · refine (mS_hit c _ ![1, 0, 0] inb_S4x512x512_S1x512x512_1_0_0 _ (ix3 1 i j) i j (by intro a; fin_cases a <;> simp)).trans ?_
    exact m1_at c fs fc fx i j
  refine (mS_miss c _ ![1, 0, 0] inb_S4x512x512_S1x512x512_1_0_0 _ (ix3 b i j) 0 (Or.inr (show 1 + 1 ≤ b.val by omega))).trans ?_
  obtain rfl | rfl : b = 2 ∨ b = 3 := by omega
  · refine (mS_hit c _ ![2, 0, 0] inb_S4x512x512_S1x512x512_2_0_0 _ (ix3 2 i j) i j (by intro a; fin_cases a <;> simp)).trans ?_
    exact m2_at c fs fc fx i j
  refine (mS_miss c _ ![2, 0, 0] inb_S4x512x512_S1x512x512_2_0_0 _ (ix3 3 i j) 0 (Or.inr (show 2 + 1 ≤ 3 by omega))).trans ?_
  rcases row_cases i with ⟨k, rfl⟩ | ⟨k, rfl⟩
  · refine (mQ_hit c _ ![3, 0, 0] inb_S4x512x512_S1x256x512_3_0_0 _ (ix3 3 (topRow k) j) k j (by intro a; fin_cases a <;> simp)).trans ?_
    exact m3_at c fs fc fx k j
  · refine (mQ_miss c _ ![3, 0, 0] inb_S4x512x512_S1x256x512_3_0_0 _ (ix3 3 (bottomRow k) j) 1 (Or.inr (show 0 + 256 ≤ 256 + k.val by omega))).trans ?_
    refine (mQ_hit c _ ![3, 256, 0] inb_S4x512x512_S1x256x512_3_256_0 _ (ix3 3 (bottomRow k) j) k j (by intro a; fin_cases a <;> simp)).trans ?_
    exact m4_at c fs fc fx k j

end Cert.KernelIdeal.Hand
-- ==== Proof.Reference.lean ====
module

public import proofs.«01_k».proof.Proof.Window
public import proofs.«01_k».proof.Proof.Stored
public import proofs.«01_k».proof.Proof.Gen.ReferenceIdeal.Run

/-! What the reference computes in its two results, element by element. -/

@[expose] public section

set_option maxRecDepth 16384

noncomputable section

namespace Cert.ReferenceIdeal.Hand

open Cert.ReferenceIdeal Cert.ReferenceIdeal.Gen
open Cert.KernelIdeal.Hand (near floor Peak bit bit_true bit_false peak_of_max coord half)
open Idealize.ShloMosaic Idealize.ShloMosaic.TcCoe Idealize.SL.Sem

variable (x : FVec Ideal S4x1x512x512 .f32) (s : FVec Ideal S4 .f32) (cen : FVec Ideal S4x2 .f32)

/-- The maps without their unit axis. -/
abbrev maps : FVec Ideal S4x512x512 .f32 := shapeCast _ x shapeCasts_S4x1x512x512_S4x512x512
/-- The maximum around each pixel, zero where that is negative. -/
abbrev localMax : FVec Ideal S4x512x512 .f32 :=
  maximumf (windowMax (maps x)) (broadcastInDim S4x512x512 ![] bcast_S_S4x512x512 (constant S_ .f32 0x00000000#32))
/-- The reference's mask. -/
def mask : IVec S4x512x512 1 :=
  andi (cmpf .ogt (localMax x) (broadcastInDim S4x512x512 ![] bcast_S_S4x512x512 (constant S_ .f32 0x3727C5AC#32))) (cmpf .oeq (localMax x) (maps x))
/-- Half the width, over a whole map. -/
abbrev halves : FVec Ideal S1x512x512 .f32 := broadcastInDim S1x512x512 ![] bcast_S_S1x512x512 (constant S_ .f32 0x43800000#32)
/-- Each map's scale, over the whole map. -/
abbrev scales : FVec Ideal S4x512x512 .f32 :=
  broadcastInDim S4x512x512 ![0, 1, 2] bcast_S4x1x1_S4x512x512_0_1_2 (broadcastInDim S4x1x1 ![0] bcast_S4_S4x1x1_0 s)
/-- A column of the centers, over the whole maps. -/
abbrev spread (v : FVec Ideal S4x1 .f32) : FVec Ideal S4x512x512 .f32 :=
  broadcastInDim S4x512x512 ![0, 1, 2] bcast_S4x1x1_S4x512x512_0_1_2 (broadcastInDim S4x1x1 ![0] bcast_S4_S4x1x1_0 (shapeCast _ v shapeCasts_S4x1_S4))
/-- The first world coordinate of every pixel. -/
def planeX : FVec Ideal S4x512x512 .f32 :=
  addf (mulf (broadcastInDim S4x512x512 ![0, 1, 2] bcast_S1x512x512_S4x512x512_0_1_2 (subf (broadcastInDim S1x512x512 ![1, 2] bcast_S512x512_S1x512x512_1_2
    (sitofp .f32 (broadcastInDim S512x512 ![1] bcast_S512_S512x512_1 (iotaInDim S512 32 0)))) halves)) (scales s))
    (spread (extractStridedSlice S4x1 ![0, 0] cen slices_S4x2_S4x1_0_0))
/-- The second world coordinate of every pixel. -/
def planeY : FVec Ideal S4x512x512 .f32 :=
  addf (mulf (broadcastInDim S4x512x512 ![0, 1, 2] bcast_S1x512x512_S4x512x512_0_1_2 (subf halves (broadcastInDim S1x512x512 ![1, 2] bcast_S512x512_S1x512x512_1_2
    (sitofp .f32 (broadcastInDim S512x512 ![0] bcast_S512_S512x512_0 (iotaInDim S512 32 0)))))) (scales s))
    (spread (extractStridedSlice S4x1 ![0, 1] cen slices_S4x2_S4x1_0_1))
/-- The reference's world result. -/
def world : FVec Ideal S4x2x512x512 .f32 :=
  mulf (concatenate S4x2x512x512 1 [⟨S4x1x512x512, broadcastInDim S4x1x512x512 ![0, 2, 3] bcast_S4x512x512_S4x1x512x512_0_2_3 (planeX s cen)⟩,
      ⟨S4x1x512x512, broadcastInDim S4x1x512x512 ![0, 2, 3] bcast_S4x512x512_S4x1x512x512_0_2_3 (planeY s cen)⟩] concatenates_S4x1x512x512_S4x1x512x512_S4x2x512x512_d1)
    (broadcastInDim S4x2x512x512 ![0, 1, 2, 3] bcast_S4x1x512x512_S4x2x512x512_0_1_2_3
      (uitofp .f32 (broadcastInDim S4x1x512x512 ![0, 2, 3] bcast_S4x512x512_S4x1x512x512_0_2_3 (mask x))))

/-- The reference ends with its mask and its world result, its arguments unchanged. -/
theorem run_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v44) = world (m ((c.tc : Thread nD τ).loc main_arg0)) (m ((c.tc : Thread nD τ).loc main_arg1)) (m ((c.tc : Thread nD τ).loc main_arg2))
      ∧ r.2.mem ((c.tc : Thread nD τ).loc main_v8) = mask (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run m ρ

/-- A map's pixel. -/
theorem maps_at (b : Fin 4) (i j : Fin 512) : maps x (ix3 b i j) = x (ix4 b 0 i j) := by pointwise

/-- The float word of zero is zero. -/
theorem zero_word : Ideal.ofBits .f32 0x00000000#32 = 0 := by simp [Ideal.ofBits, Ideal.ieee]

/-- The reference's mask is set exactly at the peaks. -/
theorem mask_at (b : Fin 4) (i j : Fin 512) : mask x (ix3 b i j) = bit (Peak (fun k l => x (ix4 b 0 k l)) i j) := by
  have hw : ∀ z, windowMax (maps x) (ix3 b i j) ≤ z ↔ ∀ k l, near i k → near j l → x (ix4 b 0 k l) ≤ z := fun z => by
    rw [windowMax_le]; simp only [maps_at]
  have hp := peak_of_max (fun k l => x (ix4 b 0 k l)) i j _ hw
  show Ideal.cmp .ogt (max (windowMax (maps x) (ix3 b i j)) (Ideal.ofBits .f32 0x00000000#32)) floor
    &&& Ideal.cmp .oeq (max (windowMax (maps x) (ix3 b i j)) (Ideal.ofBits .f32 0x00000000#32)) (maps x (ix3 b i j)) = _
  rw [zero_word, maps_at]
  have ofb : ∀ q : Prop, [Decidable q] → BitVec.ofBool (decide q) = bit q := fun q _ => by
    by_cases h : q
    · rw [bit_true h, decide_eq_true h]; rfl
    · rw [bit_false h, decide_eq_false h]; rfl
  refine (congrArg₂ (· &&& ·) (ofb _) (ofb _)).trans ?_
  by_cases hP : Peak (fun k l => x (ix4 b 0 k l)) i j
  · obtain ⟨h1, h2⟩ := hp.2 hP
    rw [bit_true h1, bit_true h2, bit_true hP]; rfl
  · rw [bit_false hP]
    by_cases h1 : floor < max (windowMax (maps x) (ix3 b i j)) 0
    · rw [bit_false fun h2 => hP (hp.1 ⟨h1, h2⟩)]; simp
    · rw [bit_false h1]; simp

/-- The first world coordinate of a pixel. -/
theorem planeX_at (b : Fin 4) (i j : Fin 512) : planeX s cen (ix3 b i j) = (coord j.val - half) * s (ix1 b) + cen (ix2 b 0) := by
  pointwise [planeX]

/-- The second world coordinate of a pixel. -/
theorem planeY_at (b : Fin 4) (i j : Fin 512) : planeY s cen (ix3 b i j) = (half - coord i.val) * s (ix1 b) + cen (ix2 b 1) := by
  pointwise [planeY]

/-- Every element of the reference's world result. -/
theorem world_at (b : Fin 4) (p : Fin 2) (i j : Fin 512) : world x s cen (ix4 b p i j)
    = (if p.val = 0 then (coord j.val - half) * s (ix1 b) + cen (ix2 b 0) else (half - coord i.val) * s (ix1 b) + cen (ix2 b 1))
      * (((bit (Peak (fun k l => x (ix4 b 0 k l)) i j)).toNat : ℝ) : EReal) := by
  fin_cases p <;> pointwise [world, planeX_at, planeY_at, mask_at] <;> rfl

end Cert.ReferenceIdeal.Hand

end
-- ==== Proof.Agree.lean ====
module

public import proofs.«01_k».proof.Proof.Reference

/-! The kernel's arithmetic against the reference's, pixel by pixel. The kernel distributes the scale over a difference, which
is exact when the scale is a real number; a center may be infinite, for both programs add it last. -/

@[expose] public section

noncomputable section

namespace Cert.Proof

open Cert.KernelIdeal.Hand (Peak bit bit_true bit_false coord half kernelWorld kernelWord)
open Idealize.ShloMosaic

/-- The half-width word is 256. -/
theorem half_eq : half = ((256 : ℝ) : EReal) := by
  simp [half, Ideal.ofBits, Ideal.ieee, -EReal.coe_mul]
  norm_num

/-- The number of a row or a column as a float is a real number. -/
theorem coord_eq (k : ℕ) : coord k = (((BitVec.ofNat 32 k).toInt : ℝ) : EReal) := rfl

/-- Scaling a column and then shifting is shifting and then scaling, when the scale is a real number. -/
theorem column_eq (n h s : ℝ) (a : EReal) : (n : EReal) * s + (a - (h : EReal) * s) = ((n : EReal) - h) * s + a := by
  induction a with
  | bot => simp
  | top =>
    rw [← EReal.coe_mul, ← EReal.coe_mul, ← EReal.coe_sub, ← EReal.coe_mul, EReal.top_sub_coe, EReal.coe_add_top, EReal.coe_add_top]
  | coe a =>
    norm_cast
    ring

/-- The same for a row, which counts downwards. -/
theorem row_eq (n h s : ℝ) (a : EReal) : (n : EReal) * (0 - s) + (a + (h : EReal) * s) = ((h : EReal) - n) * s + a := by
  have e : (0 : EReal) - s = ((-s : ℝ) : EReal) := by rw [zero_sub, EReal.coe_neg]
  rw [e]
  induction a with
  | bot => simp
  | top =>
    rw [← EReal.coe_mul, ← EReal.coe_mul, ← EReal.coe_sub, ← EReal.coe_mul, EReal.top_add_coe, EReal.coe_add_top, EReal.coe_add_top]
  | coe a =>
    norm_cast
    ring

/-- At every pixel the kernel's world value is the reference's. -/
theorem world_eq (x : Fin 512 → Fin 512 → EReal) (s : ℝ) (cx cy : EReal) (p : Fin 2) (i j : Fin 512) :
    kernelWorld x s cx cy p i j
      = (if p.val = 0 then (coord j.val - half) * s + cx else (half - coord i.val) * s + cy) * (((bit (Peak x i j)).toNat : ℝ) : EReal) := by
  unfold kernelWorld
  by_cases hP : Peak x i j
  · rw [bit_true hP]
    show (if p.val = 0 then _ else _) = _
    rw [show (((1#1 : BitVec 1).toNat : ℝ) : EReal) = 1 by simp, mul_one, half_eq, coord_eq, coord_eq]
    split
    · exact column_eq _ _ _ _
    · exact row_eq _ _ _ _
  · rw [bit_false hP]
    show (0 : EReal) = _
    rw [show (((0#1 : BitVec 1).toNat : ℝ) : EReal) = 0 by simp, mul_zero]

/-- A mask word is not zero exactly where the mask bit is set. -/
theorem word_eq (x : Fin 512 → Fin 512 → EReal) (i j : Fin 512) : IntOp.cmpi .ne (kernelWord x i j) 0#8 = bit (Peak x i j) := by
  unfold kernelWord
  by_cases hP : Peak x i j
  · rw [bit_true hP]; rfl
  · rw [bit_false hP]; rfl

/-- A value whose magnitude is below infinity is a real number. -/
theorem real_of_abs_lt {a : EReal} (h : max a (-a) < ⊤) : ∃ r : ℝ, a = r := by
  induction a with
  | bot => simp at h
  | top => simp at h
  | coe r => exact ⟨r, rfl⟩

end Cert.Proof

end
-- ==== Proof.Values.lean ====
module

public import proofs.«01_k».proof.Proof.Run
public import proofs.«01_k».proof.Proof.Agree

/-! The kernel's two results are the reference's functions of the launch arguments, when every scale is a real number. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

/-- The input maps, the scales and the centers at launch. -/
abbrev inMaps (c : Dev nD) : FVec Ideal S4x1x512x512 .f32 := m ((c.tc : Thread nD τ).loc main_arg0)
abbrev inScale (c : Dev nD) : FVec Ideal S4 .f32 := m ((c.tc : Thread nD τ).loc main_arg1)
abbrev inCenter (c : Dev nD) : FVec Ideal S4x2 .f32 := m ((c.tc : Thread nD τ).loc main_arg2)

/-- The body finds the eight center words as the centers in row order. -/
theorem center_value (c : Dev nD) : centerIn m c = shapeCast S8 (inCenter m c) shapeCasts_S4x2_S8 := by
  unfold centerIn
  show StableHlo.after (List.flatten [hostOps0]) (fun b => m (c, b)) (Proc.devRef .tc main_v0) = _
  simp only [hostOps0, List.flatten_cons, List.flatten_nil, List.append_nil]
  after_results
  rfl

/-- A map's first center. -/
theorem center_first (c : Dev nD) (b : Fin 4) : centerIn m c (ix1 (cxOf b)) = inCenter m c (ix2 b 0) := by
  rw [center_value]
  fin_cases b <;> pointwise

/-- A map's second center. -/
theorem center_second (c : Dev nD) (b : Fin 4) : centerIn m c (ix1 (cyOf b)) = inCenter m c (ix2 b 1) := by
  rw [center_value]
  fin_cases b <;> pointwise

/-- Every index of the world result names a map, a plane, a row and a column. -/
theorem world_index (z : S4x2x512x512.Idx) : ∃ (b : Fin 4) (p : Fin 2) (i j : Fin 512), z = ix4 b p i j :=
  ⟨z 0, z 1, z 2, z 3, funext fun a => by match a with | ⟨0, _⟩ => rfl | ⟨1, _⟩ => rfl | ⟨2, _⟩ => rfl | ⟨3, _⟩ => rfl⟩

/-- Every index of the mask names a map, a row and a column. -/
theorem mask_index (z : S4x512x512.Idx) : ∃ (b : Fin 4) (i j : Fin 512), z = ix3 b i j :=
  ⟨z 0, z 1, z 2, funext fun a => by match a with | ⟨0, _⟩ => rfl | ⟨1, _⟩ => rfl | ⟨2, _⟩ => rfl⟩

/-- The world result is the reference's. -/
theorem world_value (c : Dev nD) (hs : ∀ b : Fin 4, ∃ r : ℝ, inScale m c (ix1 b) = r) (g : BufAt (F := Ideal) c wcH) :
    wcOut c g (sentIn m c) = Cert.ReferenceIdeal.Hand.world (inMaps m c) (inScale m c) (inCenter m c) := by
  funext z
  obtain ⟨b, p, i, j, rfl⟩ := world_index z
  obtain ⟨r, hr⟩ := hs b
  refine (world_at c (scaleIn m c) (centerIn m c) (V m c main_arg0) g b p i j).trans ?_
  have hsc : scaleIn m c (ix1 b) = (r : EReal) := (congrFun (V_main_arg1 m c) (ix1 b)).trans hr
  have hx : mapOf c (V m c main_arg0) b = fun k l => inMaps m c (ix4 b 0 k l) :=
    funext fun k => funext fun l => congrFun (V_main_arg0 m c) (ix4 b 0 k l)
  rw [hsc, center_first, center_second, hx, Cert.Proof.world_eq, ← hr]
  exact (Cert.ReferenceIdeal.Hand.world_at (inMaps m c) (inScale m c) (inCenter m c) b p i j).symm

/-- The mask result is the reference's. -/
theorem mask_value (c : Dev nD) :
    cmpi .ne (maskWords m c) (broadcastInDim S4x512x512 ![] bcast_S_S4x512x512 (constantI S_ 8 0#8))
      = Cert.ReferenceIdeal.Hand.mask (inMaps m c) := by
  funext z
  obtain ⟨b, i, j, rfl⟩ := mask_index z
  have hx : mapOf c (V m c main_arg0) b = fun k l => inMaps m c (ix4 b 0 k l) :=
    funext fun k => funext fun l => congrFun (V_main_arg0 m c) (ix4 b 0 k l)
  have hw : maskWords m c (ix3 b i j) = kernelWord (fun k l => inMaps m c (ix4 b 0 k l)) i j :=
    (word_at c (scaleIn m c) (centerIn m c) (V m c main_arg0) (V m c main_v1_1) b i j).trans (by rw [hx])
  show IntOp.cmpi .ne (maskWords m c (ix3 b i j)) 0#8 = _
  rw [hw, Cert.Proof.word_eq]
  exact (Cert.ReferenceIdeal.Hand.mask_at (inMaps m c) b i j).symm

/-- The kernel ends with the reference's world result and mask of its launch arguments, which are unchanged. -/
theorem run_kernel (hs : ∀ (c : Dev nD) (b : Fin 4), ∃ r : ℝ, inScale m c (ix1 b) = r) :
    θ_run (defs (F := Ideal)) (onTc (τ := τ) (main (F := Ideal))) ⟨m, fun _ => 0, ρ⟩ (fun r => ∀ c : Dev nD,
      r.2.mem ((c.tc : Thread nD τ).loc main_v1_0) = Cert.ReferenceIdeal.Hand.world (inMaps m c) (inScale m c) (inCenter m c)
      ∧ r.2.mem ((c.tc : Thread nD τ).loc main_v5) = Cert.ReferenceIdeal.Hand.mask (inMaps m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h.1 c).2 main_v1_0 (Pipeline.mem_restRefs_of main_v1_0 (by decide) (by decide))).trans ((atEnd_world m c).trans (world_value m c (hs c) _)),
        ((h.1 c).2 main_v5 (Pipeline.mem_restRefs_of main_v5 (by decide) (by decide))).trans ((atEnd_mask m c).trans (mask_value m c)),
        ((h.1 c).2 main_arg0 (Pipeline.mem_restRefs_of main_arg0 (by decide) (by decide))).trans (atEnd_arg0 m c),
        ((h.1 c).1 0).trans (((dats m 0 c).arrAt_in 0 rfl _).trans ((A_eq m c 0).trans (V_main_arg1 m c))),
        ((h.1 c).2 main_arg2 (Pipeline.mem_restRefs_of main_arg2 (by decide) (by decide))).trans (atEnd_arg2 m c)⟩) (run_main m ρ)

end Cert.KernelIdeal.Hand

end
-- ==== Proof.Algebraic.lean ====
module

public import proofs.«01_k».proof.Defs
public import proofs.«01_k».proof.Proof.Frames
public import proofs.«01_k».proof.Proof.Values

/-! The algebraic claim: from memories that agree on the arguments, with every scale a real number, the idealized kernel
and the reference end with equal results. -/

@[expose] public section

set_option maxRecDepth 16384

noncomputable section

namespace Cert.Proof

open Idealize.ShloMosaic Idealize.SL.Sem

/-- The precondition's side condition. -/
theorem pre_facts : Cert.Pre_scale_finite.Facts := ⟨by decide⟩
attribute [local instance] pre_facts

/-- The float word of infinity is the greatest value. -/
theorem infinity_word : Ideal.ofBits .f32 0x7F800000#32 = ⊤ := by simp [Ideal.ofBits, Ideal.ieee]

/-- Under the precondition every scale is a real number. -/
theorem scale_real (m : (ℓ : Loc Cert.KernelIdeal.nD Cert.KernelIdeal.τ Cert.KernelIdeal.sig) → Buf (Elt Ideal) ℓ)
    (h : Cert.Pre_KernelIdeal_scale_finite m) (c : Dev Cert.KernelIdeal.nD) (b : Fin 4) :
    ∃ r : ℝ, Cert.KernelIdeal.Hand.inScale m c (ix1 b) = r := by
  have e : BitVec.ofBool (decide (max (Cert.KernelIdeal.Hand.inScale m c (ix1 b)) (-(Cert.KernelIdeal.Hand.inScale m c (ix1 b)))
      < Ideal.ofBits .f32 0x7F800000#32)) = 1#1 := congrFun (h c) (ix1 b)
  rw [infinity_word] at e
  refine real_of_abs_lt ?_
  by_contra hn
  rw [decide_eq_false hn] at e
  exact absurd e (by decide)

/-- The idealized kernel and the reference end with equal results. -/
theorem algebraic : Cert.algebraic_KernelIdeal_ReferenceIdeal_pre_scale_finite := by
  intro m g m' g' hpre hargs
  refine ⟨_, _, Cert.KernelIdeal.Hand.run_kernel m g (scale_real m hpre), ?_⟩
  refine (θ_run Cert.ReferenceIdeal.defs _ _).mono (fun r h c => ?_) (Cert.ReferenceIdeal.Hand.run_reference m' g')
  obtain ⟨h0, h1, h2⟩ := hargs c
  obtain ⟨k0, k1, k2⟩ := h c
  exact ⟨k0.trans (by rw [h0, h1, h2]), k1.trans (by rw [h0]), k2⟩

/-- The frames under the precondition, which they do not need. -/
theorem frame_ideal_pre : Cert.quiescent_KernelIdeal_pre_scale_finite := fun m g _ => frame_ideal m g trivial
theorem frame_reference_pre : Cert.quiescent_ReferenceIdeal_pre_scale_finite := fun m g _ => frame_reference m g trivial

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic

@[expose] public section

noncomputable section

namespace Cert.Proof

open Idealize.ShloMosaic Idealize.SL.Sem

/-- Every claim of this certificate. -/
theorem claim : Cert.Claim := ⟨Cert.Kernel.Gen.facts, Cert.KernelIdeal.Gen.facts, Cert.ReferenceIdeal.Gen.facts, pre_facts,
  frame_kernel, frame_ideal, frame_ideal_pre, frame_reference, frame_reference_pre, trivial, algebraic⟩

end Cert.Proof

end
